-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Repack (m : (ℓ : Loc Cert.Repack.nD Cert.Repack.τ Cert.Repack.sig) → Buf (Elt Bits) ℓ) : Prop :=
  True

def Pre_RepackIdeal (m : (ℓ : Loc Cert.RepackIdeal.nD Cert.RepackIdeal.τ Cert.RepackIdeal.sig) → Buf (Elt Ideal) ℓ) : Prop :=
  True

def Pre_RepackReferenceIdeal (m : (ℓ : Loc Cert.RepackReferenceIdeal.nD Cert.RepackReferenceIdeal.τ Cert.RepackReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Repack [hRepack : Cert.Repack.Facts] : Prop :=
  ∀ (m : (ℓ : Loc Cert.Repack.nD Cert.Repack.τ Cert.Repack.sig) → Buf (Elt Bits) ℓ) (g : Dev Cert.Repack.nD → PrngReg), Pre_Repack m →
    θ_run (Cert.Repack.defs (F := Bits)) (onTc (τ := Cert.Repack.τ) (Cert.Repack.main (F := Bits))) ⟨m, fun _ => 0, g⟩ (fun r => (∀ c : Dev Cert.Repack.nD,
      r.2.mem ((c.tc : Thread Cert.Repack.nD Cert.Repack.τ).loc Cert.Repack.main_arg0) = m ((c.tc : Thread Cert.Repack.nD Cert.Repack.τ).loc Cert.Repack.main_arg0))
      ∧ r.2.sem = fun _ => 0)

def quiescent_RepackIdeal [hRepackIdeal : Cert.RepackIdeal.Facts] : Prop :=
  ∀ (m : (ℓ : Loc Cert.RepackIdeal.nD Cert.RepackIdeal.τ Cert.RepackIdeal.sig) → Buf (Elt Ideal) ℓ) (g : Dev Cert.RepackIdeal.nD → PrngReg), Pre_RepackIdeal m →
    θ_run (Cert.RepackIdeal.defs (F := Ideal)) (onTc (τ := Cert.RepackIdeal.τ) (Cert.RepackIdeal.main (F := Ideal))) ⟨m, fun _ => 0, g⟩ (fun r => (∀ c : Dev Cert.RepackIdeal.nD,
      r.2.mem ((c.tc : Thread Cert.RepackIdeal.nD Cert.RepackIdeal.τ).loc Cert.RepackIdeal.main_arg0) = m ((c.tc : Thread Cert.RepackIdeal.nD Cert.RepackIdeal.τ).loc Cert.RepackIdeal.main_arg0))
      ∧ r.2.sem = fun _ => 0)

def quiescent_RepackReferenceIdeal [hRepackReferenceIdeal : Cert.RepackReferenceIdeal.Facts] : Prop :=
  ∀ (m : (ℓ : Loc Cert.RepackReferenceIdeal.nD Cert.RepackReferenceIdeal.τ Cert.RepackReferenceIdeal.sig) → Buf (Elt Ideal) ℓ) (g : Dev Cert.RepackReferenceIdeal.nD → PrngReg), Pre_RepackReferenceIdeal m →
    θ_run (Cert.RepackReferenceIdeal.defs (F := Ideal)) (onTc (τ := Cert.RepackReferenceIdeal.τ) (Cert.RepackReferenceIdeal.main (F := Ideal))) ⟨m, fun _ => 0, g⟩ (fun r => (∀ c : Dev Cert.RepackReferenceIdeal.nD,
      r.2.mem ((c.tc : Thread Cert.RepackReferenceIdeal.nD Cert.RepackReferenceIdeal.τ).loc Cert.RepackReferenceIdeal.main_arg0) = m ((c.tc : Thread Cert.RepackReferenceIdeal.nD Cert.RepackReferenceIdeal.τ).loc Cert.RepackReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Repack_RepackIdeal : Prop :=
  True

def algebraic_RepackIdeal_RepackReferenceIdeal [hRepackIdeal : Cert.RepackIdeal.Facts] [hRepackReferenceIdeal : Cert.RepackReferenceIdeal.Facts] : Prop :=
  ∀ (m : (ℓ : Loc Cert.RepackIdeal.nD Cert.RepackIdeal.τ Cert.RepackIdeal.sig) → Buf (Elt Ideal) ℓ) (g : Dev Cert.RepackIdeal.nD → PrngReg)
    (m' : (ℓ : Loc Cert.RepackReferenceIdeal.nD Cert.RepackReferenceIdeal.τ Cert.RepackReferenceIdeal.sig) → Buf (Elt Ideal) ℓ) (g' : Dev Cert.RepackReferenceIdeal.nD → PrngReg), Pre_RepackIdeal m →
    (∀ c : Dev Cert.RepackIdeal.nD,
      m' ((c.tc : Thread Cert.RepackReferenceIdeal.nD Cert.RepackReferenceIdeal.τ).loc Cert.RepackReferenceIdeal.main_arg0) = m ((c.tc : Thread Cert.RepackIdeal.nD Cert.RepackIdeal.τ).loc Cert.RepackIdeal.main_arg0)) →
    ∃ (v0 : (c : Dev Cert.RepackIdeal.nD) → Buf (Elt Ideal) ((c.tc : Thread Cert.RepackIdeal.nD Cert.RepackIdeal.τ).loc Cert.RepackIdeal.main_v0)),
      θ_run (Cert.RepackIdeal.defs (F := Ideal)) (onTc (τ := Cert.RepackIdeal.τ) (Cert.RepackIdeal.main (F := Ideal))) ⟨m, fun _ => 0, g⟩ (fun r => ∀ c : Dev Cert.RepackIdeal.nD,
          r.2.mem ((c.tc : Thread Cert.RepackIdeal.nD Cert.RepackIdeal.τ).loc Cert.RepackIdeal.main_v0) = v0 c
          ∧ r.2.mem ((c.tc : Thread Cert.RepackIdeal.nD Cert.RepackIdeal.τ).loc Cert.RepackIdeal.main_arg0) = m ((c.tc : Thread Cert.RepackIdeal.nD Cert.RepackIdeal.τ).loc Cert.RepackIdeal.main_arg0))
      ∧ θ_run (Cert.RepackReferenceIdeal.defs (F := Ideal)) (onTc (τ := Cert.RepackReferenceIdeal.τ) (Cert.RepackReferenceIdeal.main (F := Ideal))) ⟨m', fun _ => 0, g'⟩ (fun r => ∀ c : Dev Cert.RepackReferenceIdeal.nD,
          r.2.mem ((c.tc : Thread Cert.RepackReferenceIdeal.nD Cert.RepackReferenceIdeal.τ).loc Cert.RepackReferenceIdeal.main_v16) = v0 c
          ∧ r.2.mem ((c.tc : Thread Cert.RepackReferenceIdeal.nD Cert.RepackReferenceIdeal.τ).loc Cert.RepackReferenceIdeal.main_arg0) = m' ((c.tc : Thread Cert.RepackReferenceIdeal.nD Cert.RepackReferenceIdeal.τ).loc Cert.RepackReferenceIdeal.main_arg0))

def Claim : Prop :=
  ∃ (hKernel : Cert.Kernel.Facts) (hKernelIdeal : Cert.KernelIdeal.Facts) (hReferenceIdeal : Cert.ReferenceIdeal.Facts) (hRepack : Cert.Repack.Facts) (hRepackIdeal : Cert.RepackIdeal.Facts) (hRepackReferenceIdeal : Cert.RepackReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Repack (hRepack := hRepack)
    ∧ quiescent_RepackIdeal (hRepackIdeal := hRepackIdeal)
    ∧ quiescent_RepackReferenceIdeal (hRepackReferenceIdeal := hRepackReferenceIdeal)
    ∧ preserves_Kernel_KernelIdeal
    ∧ algebraic_KernelIdeal_ReferenceIdeal (hKernelIdeal := hKernelIdeal) (hReferenceIdeal := hReferenceIdeal)
    ∧ preserves_Repack_RepackIdeal
    ∧ algebraic_RepackIdeal_RepackReferenceIdeal (hRepackIdeal := hRepackIdeal) (hRepackReferenceIdeal := hRepackReferenceIdeal)
-- ==== Kernel.lean ====
abbrev S4x153600x128 : Shape := ⟨3, ![4, 153600, 128]⟩
abbrev S153600x128 : Shape := ⟨2, ![153600, 128]⟩
abbrev S153600x512 : Shape := ⟨2, ![153600, 512]⟩
abbrev S1200x128 : Shape := ⟨2, ![1200, 128]⟩
abbrev S4x1024x128 : Shape := ⟨3, ![4, 1024, 128]⟩
abbrev S1024x128 : Shape := ⟨2, ![1024, 128]⟩
abbrev S1024x512 : Shape := ⟨2, ![1024, 512]⟩
abbrev S8x128 : Shape := ⟨2, ![8, 128]⟩
abbrev S1x128 : Shape := ⟨2, ![1, 128]⟩
abbrev S128x128 : Shape := ⟨2, ![128, 128]⟩
abbrev S32x128 : Shape := ⟨2, ![32, 128]⟩
abbrev S1x32x128 : Shape := ⟨3, ![1, 32, 128]⟩
abbrev S32 : Shape := ⟨1, ![32]⟩
abbrev S32x1 : Shape := ⟨2, ![32, 1]⟩

abbrev nBuf : Space → Nat
  | .hbm => 10
  | .vmem => 24
  | .smem => 0
  | _ => 0

abbrev bufTy : (tb : Table) → Fin (tcTables nBuf tb) → BufTy
  | .hbm, ⟨0, _⟩ => ⟨S4x153600x128, .f32⟩
  | .hbm, ⟨1, _⟩ => ⟨S153600x128, .i32⟩
  | .hbm, ⟨2, _⟩ => ⟨S153600x512, .i32⟩
  | .hbm, ⟨3, _⟩ => ⟨S1200x128, .f32⟩
  | .hbm, ⟨4, _⟩ => ⟨S1200x128, .f32⟩
  | .hbm, ⟨5, _⟩ => ⟨S1200x128, .f32⟩
  | .hbm, ⟨6, _⟩ => ⟨S153600x512, .i8⟩
  | .hbm, ⟨7, _⟩ => ⟨S1200x128, .f32⟩
  | .hbm, ⟨8, _⟩ => ⟨S1200x128, .f32⟩
  | .hbm, ⟨9, _⟩ => ⟨S1200x128, .f32⟩
  | .local _ .vmem, ⟨0, _⟩ => ⟨S4x1024x128, .f32⟩
  | .local _ .vmem, ⟨1, _⟩ => ⟨S4x1024x128, .f32⟩
  | .local _ .vmem, ⟨2, _⟩ => ⟨S1024x128, .i32⟩
  | .local _ .vmem, ⟨3, _⟩ => ⟨S1024x128, .i32⟩
  | .local _ .vmem, ⟨4, _⟩ => ⟨S1024x512, .i32⟩
  | .local _ .vmem, ⟨5, _⟩ => ⟨S1024x512, .i32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S1024x512, .i8⟩
  | .local _ .vmem, ⟨13, _⟩ => ⟨S1024x512, .i8⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | _, _ => ⟨S4x153600x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![150], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32 : BitVec 32 := 128#32
  let v4 : BitVec 32 := Scalar.muli arg15 c128_i32
  v4
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let v6 : Index := Scalar.indexCast arg15
  let c0 : Index := 0#32
  ![v6.toNat, 0]
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32 : BitVec 32 := 128#32
  let v4 : BitVec 32 := Scalar.muli arg15 c128_i32
  let v5 : BitVec 32 := v4
  let v11 : Index := Scalar.indexCast v5
  let c0_8 : Index := 0#32
  ![v11.toNat, 0]
@[reducible] def k0_t2_loop : Scf.Loop 32 :=
  let c0_i32_1 : BitVec 32 := 0#32
  let c32_i32 : BitVec 32 := 32#32
  let v2 : BitVec 32 := Scalar.addi c0_i32_1 c32_i32
  let c1_i32_2 : BitVec 32 := 1#32
  ⟨c0_i32_1, v2, c1_i32_2⟩
def k0_mult2 (k0_t2 : Fin k0_t2_loop.trips) : BitVec 32 :=
  let c0_i32_1 : BitVec 32 := 0#32
  let c1_i32_2 : BitVec 32 := 1#32
  let arg15 : BitVec 32 := Scf.iv c0_i32_1 c1_i32_2 k0_t2
  let c32_i32_8 : BitVec 32 := 32#32
  let v4 : BitVec 32 := Scalar.muli arg15 c32_i32_8
  v4
def k0_off3 (k0_t2 : Fin k0_t2_loop.trips) : Fin 3 → Nat :=
  let c0 : Index := 0#32
  let c0_i32_1 : BitVec 32 := 0#32
  let c1_i32_2 : BitVec 32 := 1#32
  let arg15 : BitVec 32 := Scf.iv c0_i32_1 c1_i32_2 k0_t2
  let c32_i32_8 : BitVec 32 := 32#32
  let v4 : BitVec 32 := Scalar.muli arg15 c32_i32_8
  let v5 : BitVec 32 := v4
  let v6 : Index := Scalar.indexCast v5
  let c0_9 : Index := 0#32
  ![0, v6.toNat, 0]
def k0_off4 (k0_t2 : Fin k0_t2_loop.trips) : Fin 3 → Nat :=
  let c1 : Index := 1#32
  let c0_i32_1 : BitVec 32 := 0#32
  let c1_i32_2 : BitVec 32 := 1#32
  let arg15 : BitVec 32 := Scf.iv c0_i32_1 c1_i32_2 k0_t2
  let c32_i32_8 : BitVec 32 := 32#32
  let v4 : BitVec 32 := Scalar.muli arg15 c32_i32_8
  let v5 : BitVec 32 := v4
  let v9 : Index := Scalar.indexCast v5
  let c0_10 : Index := 0#32
  ![1, v9.toNat, 0]
def k0_off5 (k0_t2 : Fin k0_t2_loop.trips) : Fin 3 → Nat :=
  let c2 : Index := 2#32
  let c0_i32_1 : BitVec 32 := 0#32
  let c1_i32_2 : BitVec 32 := 1#32
  let arg15 : BitVec 32 := Scf.iv c0_i32_1 c1_i32_2 k0_t2
  let c32_i32_8 : BitVec 32 := 32#32
  let v4 : BitVec 32 := Scalar.muli arg15 c32_i32_8
  let v5 : BitVec 32 := v4
  let v12 : Index := Scalar.indexCast v5
  let c0_11 : Index := 0#32
  ![2, v12.toNat, 0]
def k0_off6 (k0_t2 : Fin k0_t2_loop.trips) : Fin 3 → Nat :=
  let c3 : Index := 3#32
  let c0_i32_1 : BitVec 32 := 0#32
  let c1_i32_2 : BitVec 32 := 1#32
  let arg15 : BitVec 32 := Scf.iv c0_i32_1 c1_i32_2 k0_t2
  let c32_i32_8 : BitVec 32 := 32#32
  let v4 : BitVec 32 := Scalar.muli arg15 c32_i32_8
  let v5 : BitVec 32 := v4
  let v15 : Index := Scalar.indexCast v5
  let c0_12 : Index := 0#32
  ![3, v15.toNat, 0]
def k0_off7 (k0_t2 : Fin k0_t2_loop.trips) : Fin 2 → Nat :=
  let c0_i32_1 : BitVec 32 := 0#32
  let c1_i32_2 : BitVec 32 := 1#32
  let arg15 : BitVec 32 := Scf.iv c0_i32_1 c1_i32_2 k0_t2
  let c32_i32_8 : BitVec 32 := 32#32
  let v4 : BitVec 32 := Scalar.muli arg15 c32_i32_8
  let v5 : BitVec 32 := v4
  let v25 : Index := Scalar.indexCast v5
  let c0_13 : Index := 0#32
  ![v25.toNat, 0]
def k0_off8 (k0_t2 : Fin k0_t2_loop.trips) : Fin 2 → Nat :=
  let c0_i32_1 : BitVec 32 := 0#32
  let c1_i32_2 : BitVec 32 := 1#32
  let arg15 : BitVec 32 := Scf.iv c0_i32_1 c1_i32_2 k0_t2
  let c32_i32_8 : BitVec 32 := 32#32
  let v4 : BitVec 32 := Scalar.muli arg15 c32_i32_8
  let v5 : BitVec 32 := v4
  let v95 : Index := Scalar.indexCast v5
  let c0_29 : Index := 0#32
  ![v95.toNat, 0]
def k0_off9 (k0_t2 : Fin k0_t2_loop.trips) : Fin 2 → Nat :=
  let c0_i32_1 : BitVec 32 := 0#32
  let c1_i32_2 : BitVec 32 := 1#32
  let arg15 : BitVec 32 := Scf.iv c0_i32_1 c1_i32_2 k0_t2
  let c32_i32_8 : BitVec 32 := 32#32
  let v4 : BitVec 32 := Scalar.muli arg15 c32_i32_8
  let v5 : BitVec 32 := v4
  let v116 : Index := Scalar.indexCast v5
  let c128 : Index := 128#32
  ![v116.toNat, 128]
def k0_off10 (k0_t2 : Fin k0_t2_loop.trips) : Fin 2 → Nat :=
  let c0_i32_1 : BitVec 32 := 0#32
  let c1_i32_2 : BitVec 32 := 1#32
  let arg15 : BitVec 32 := Scf.iv c0_i32_1 c1_i32_2 k0_t2
  let c32_i32_8 : BitVec 32 := 32#32
  let v4 : BitVec 32 := Scalar.muli arg15 c32_i32_8
  let v5 : BitVec 32 := v4
  let v137 : Index := Scalar.indexCast v5
  let c256 : Index := 256#32
  ![v137.toNat, 256]
def k0_off11 (k0_t2 : Fin k0_t2_loop.trips) : Fin 2 → Nat :=
  let c0_i32_1 : BitVec 32 := 0#32
  let c1_i32_2 : BitVec 32 := 1#32
  let arg15 : BitVec 32 := Scf.iv c0_i32_1 c1_i32_2 k0_t2
  let c32_i32_8 : BitVec 32 := 32#32
  let v4 : BitVec 32 := Scalar.muli arg15 c32_i32_8
  let v5 : BitVec 32 := v4
  let v158 : Index := Scalar.indexCast v5
  let c384 : Index := 384#32
  ![v158.toNat, 384]
@[reducible] def k0_t3_loop : Scf.Loop 32 :=
  let c0_i32_4 : BitVec 32 := 0#32
  let c8_i32_5 : BitVec 32 := 8#32
  let v3 : BitVec 32 := Scalar.addi c0_i32_4 c8_i32_5
  let c1_i32_6 : BitVec 32 := 1#32
  ⟨c0_i32_4, v3, c1_i32_6⟩
def k0_mult3 (k0_t3 : Fin k0_t3_loop.trips) : BitVec 32 :=
  let c0_i32_4 : BitVec 32 := 0#32
  let c1_i32_6 : BitVec 32 := 1#32
  let arg15 : BitVec 32 := Scf.iv c0_i32_4 c1_i32_6 k0_t3
  let c128_i32 : BitVec 32 := 128#32
  let v4 : BitVec 32 := Scalar.muli arg15 c128_i32
  v4
def k0_off12 (k0_t3 : Fin k0_t3_loop.trips) : Fin 2 → Nat :=
  let c0_i32_4 : BitVec 32 := 0#32
  let c1_i32_6 : BitVec 32 := 1#32
  let arg15 : BitVec 32 := Scf.iv c0_i32_4 c1_i32_6 k0_t3
  let c128_i32 : BitVec 32 := 128#32
  let v4 : BitVec 32 := Scalar.muli arg15 c128_i32
  let v5 : BitVec 32 := v4
  let v6 : Index := Scalar.indexCast v5
  let c0 : Index := 0#32
  ![v6.toNat, 0]
def k0_off13 (k0_t3 : Fin k0_t3_loop.trips) : Fin 2 → Nat :=
  let c0_i32_4 : BitVec 32 := 0#32
  let c1_i32_6 : BitVec 32 := 1#32
  let arg15 : BitVec 32 := Scf.iv c0_i32_4 c1_i32_6 k0_t3
  let v10 : Index := Scalar.indexCast arg15
  let c0_8 : Index := 0#32
  ![v10.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4x153600x128 : Shape := ⟨3, ![4, 153600, 128]⟩
abbrev S153600x128 : Shape := ⟨2, ![153600, 128]⟩
abbrev S153600x512 : Shape := ⟨2, ![153600, 512]⟩
abbrev S1200x128 : Shape := ⟨2, ![1200, 128]⟩
abbrev S1x153600x128 : Shape := ⟨3, ![1, 153600, 128]⟩
abbrev S_ : Shape := ⟨0, ![]⟩
abbrev S153600 : Shape := ⟨1, ![153600]⟩
abbrev S153600x1 : Shape := ⟨2, ![153600, 1]⟩

abbrev nBuf : Space → Nat
  | .hbm => 110
  | .vmem => 0
  | .smem => 0
  | _ => 0

abbrev bufTy : (tb : Table) → Fin (tcTables nBuf tb) → BufTy
  | .hbm, ⟨0, _⟩ => ⟨S4x153600x128, .f32⟩
  | .hbm, ⟨1, _⟩ => ⟨S153600x128, .i32⟩
  | .hbm, ⟨2, _⟩ => ⟨S153600x512, .i32⟩
  | .hbm, ⟨3, _⟩ => ⟨S1200x128, .f32⟩
  | .hbm, ⟨4, _⟩ => ⟨S1200x128, .f32⟩
  | .hbm, ⟨5, _⟩ => ⟨S1200x128, .f32⟩
  | .hbm, ⟨6, _⟩ => ⟨S1x153600x128, .f32⟩
  | .hbm, ⟨7, _⟩ => ⟨S153600x128, .f32⟩
  | .hbm, ⟨8, _⟩ => ⟨S1x153600x128, .f32⟩
  | .hbm, ⟨9, _⟩ => ⟨S153600x128, .f32⟩
  | .hbm, ⟨10, _⟩ => ⟨S1x153600x128, .f32⟩
  | .hbm, ⟨11, _⟩ => ⟨S153600x128, .f32⟩
  | .hbm, ⟨12, _⟩ => ⟨S1x153600x128, .f32⟩
  | .hbm, ⟨13, _⟩ => ⟨S153600x128, .f32⟩
  | .hbm, ⟨14, _⟩ => ⟨S153600x512, .f32⟩
  | .hbm, ⟨15, _⟩ => ⟨S_, .i32⟩
  | .hbm, ⟨16, _⟩ => ⟨S153600x128, .i32⟩
  | .hbm, ⟨17, _⟩ => ⟨S153600x128, .i32⟩
  | .hbm, ⟨18, _⟩ => ⟨S_, .i32⟩
  | .hbm, ⟨19, _⟩ => ⟨S153600x128, .i32⟩
  | .hbm, ⟨20, _⟩ => ⟨S153600x128, .i32⟩
  | .hbm, ⟨21, _⟩ => ⟨S_, .i32⟩
  | .hbm, ⟨22, _⟩ => ⟨S153600x128, .i32⟩
  | .hbm, ⟨23, _⟩ => ⟨S153600x128, .i32⟩
  | .hbm, ⟨24, _⟩ => ⟨S_, .i32⟩
  | .hbm, ⟨25, _⟩ => ⟨S153600x128, .i32⟩
  | .hbm, ⟨26, _⟩ => ⟨S153600x128, .i32⟩
  | .hbm, ⟨27, _⟩ => ⟨S_, .i32⟩
  | .hbm, ⟨28, _⟩ => ⟨S153600x128, .i32⟩
  | .hbm, ⟨29, _⟩ => ⟨S153600x128, .i32⟩
  | .hbm, ⟨30, _⟩ => ⟨S_, .i32⟩
  | .hbm, ⟨31, _⟩ => ⟨S153600x128, .i32⟩
  | .hbm, ⟨32, _⟩ => ⟨S153600x128, .i32⟩
  | .hbm, ⟨33, _⟩ => ⟨S_, .i32⟩
  | .hbm, ⟨34, _⟩ => ⟨S153600x128, .i32⟩
  | .hbm, ⟨35, _⟩ => ⟨S153600x128, .i32⟩
  | .hbm, ⟨36, _⟩ => ⟨S_, .i32⟩
  | .hbm, ⟨37, _⟩ => ⟨S153600x128, .i32⟩
  | .hbm, ⟨38, _⟩ => ⟨S153600x128, .i32⟩
  | .hbm, ⟨39, _⟩ => ⟨S153600x512, .i32⟩
  | .hbm, ⟨40, _⟩ => ⟨S153600, .f32⟩
  | .hbm, ⟨41, _⟩ => ⟨S153600, .f32⟩
  | .hbm, ⟨42, _⟩ => ⟨S153600, .f32⟩
  | .hbm, ⟨43, _⟩ => ⟨S153600x512, .f32⟩
  | .hbm, ⟨44, _⟩ => ⟨S153600x1, .f32⟩
  | .hbm, ⟨45, _⟩ => ⟨S153600x512, .f32⟩
  | .hbm, ⟨46, _⟩ => ⟨S153600x512, .f32⟩
  | .hbm, ⟨47, _⟩ => ⟨S153600x1, .f32⟩
  | .hbm, ⟨48, _⟩ => ⟨S153600x512, .f32⟩
  | .hbm, ⟨49, _⟩ => ⟨S153600x512, .f32⟩
  | .hbm, ⟨50, _⟩ => ⟨S153600x512, .f32⟩
  | .hbm, ⟨51, _⟩ => ⟨S_, .f32⟩
  | .hbm, ⟨52, _⟩ => ⟨S153600, .f32⟩
  | .hbm, ⟨53, _⟩ => ⟨S_, .f32⟩
  | .hbm, ⟨54, _⟩ => ⟨S153600, .f32⟩
  | .hbm, ⟨55, _⟩ => ⟨S153600, .f32⟩
  | .hbm, ⟨56, _⟩ => ⟨S153600, .f32⟩
  | .hbm, ⟨57, _⟩ => ⟨S153600, .f32⟩
  | .hbm, ⟨58, _⟩ => ⟨S_, .f32⟩
  | .hbm, ⟨59, _⟩ => ⟨S153600, .f32⟩
  | .hbm, ⟨60, _⟩ => ⟨S153600, .f32⟩
  | .hbm, ⟨61, _⟩ => ⟨S_, .f32⟩
  | .hbm, ⟨62, _⟩ => ⟨S153600, .f32⟩
  | .hbm, ⟨63, _⟩ => ⟨S153600, .f32⟩
  | .hbm, ⟨64, _⟩ => ⟨S153600x1, .f32⟩
  | .hbm, ⟨65, _⟩ => ⟨S153600x512, .f32⟩
  | .hbm, ⟨66, _⟩ => ⟨S153600x512, .f32⟩
  | .hbm, ⟨67, _⟩ => ⟨S153600x512, .f32⟩
  | .hbm, ⟨68, _⟩ => ⟨S_, .f32⟩
  | .hbm, ⟨69, _⟩ => ⟨S153600, .f32⟩
  | .hbm, ⟨70, _⟩ => ⟨S_, .f32⟩
  | .hbm, ⟨71, _⟩ => ⟨S153600, .f32⟩
  | .hbm, ⟨72, _⟩ => ⟨S153600, .f32⟩
  | .hbm, ⟨73, _⟩ => ⟨S_, .f32⟩
  | .hbm, ⟨74, _⟩ => ⟨S153600, .f32⟩
  | .hbm, ⟨75, _⟩ => ⟨S153600, .f32⟩
  | .hbm, ⟨76, _⟩ => ⟨S_, .f32⟩
  | .hbm, ⟨77, _⟩ => ⟨S153600, .f32⟩
  | .hbm, ⟨78, _⟩ => ⟨S153600, .f32⟩
  | .hbm, ⟨79, _⟩ => ⟨S153600x1, .f32⟩
  | .hbm, ⟨80, _⟩ => ⟨S153600x512, .f32⟩
  | .hbm, ⟨81, _⟩ => ⟨S153600x512, .f32⟩
  | .hbm, ⟨82, _⟩ => ⟨S153600x1, .f32⟩
  | .hbm, ⟨83, _⟩ => ⟨S153600x512, .f32⟩
  | .hbm, ⟨84, _⟩ => ⟨S153600x512, .f32⟩
  | .hbm, ⟨85, _⟩ => ⟨S_, .i32⟩
  | .hbm, ⟨86, _⟩ => ⟨S153600x512, .i32⟩
  | .hbm, ⟨87, _⟩ => ⟨S153600x512, .i32⟩
  | .hbm, ⟨88, _⟩ => ⟨S153600x512, .f32⟩
  | .hbm, ⟨89, _⟩ => ⟨S_, .f32⟩
  | .hbm, ⟨90, _⟩ => ⟨S153600x512, .f32⟩
  | .hbm, ⟨91, _⟩ => ⟨S153600x512, .f32⟩
  | .hbm, ⟨92, _⟩ => ⟨S153600x512, .f32⟩
  | .hbm, ⟨93, _⟩ => ⟨S153600x512, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S153600x512, .f32⟩
  | .hbm, ⟨98, _⟩ => ⟨S153600x512, .f32⟩
  | .hbm, ⟨99, _⟩ => ⟨S_, .f32⟩
  | .hbm, ⟨100, _⟩ => ⟨S153600x512, .f32⟩
  | .hbm, ⟨101, _⟩ => ⟨S153600x512, .f32⟩
  | .hbm, ⟨102, _⟩ => ⟨S153600x512, .i32⟩
  | .hbm, ⟨103, _⟩ => ⟨S153600x512, .i8⟩
  | .hbm, ⟨104, _⟩ => ⟨S_, .f32⟩
  | .hbm, ⟨105, _⟩ => ⟨S153600, .f32⟩
  | .hbm, ⟨106, _⟩ => ⟨S153600, .f32⟩
  | .hbm, ⟨107, _⟩ => ⟨S1200x128, .f32⟩
  | .hbm, ⟨108, _⟩ => ⟨S1200x128, .f32⟩
  | .hbm, ⟨109, _⟩ => ⟨S1200x128, .f32⟩
  | _, _ => ⟨S4x153600x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_15 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_16 : Ref sig .tc := ⟨.hbm, 94, rfl⟩
abbrev main_cst_17 : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_18 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]
-- ==== Repack.lean ====
abbrev S700000x512 : Shape := ⟨2, ![700000, 512]⟩
abbrev S700000x128 : Shape := ⟨2, ![700000, 128]⟩
abbrev S5600x512 : Shape := ⟨2, ![5600, 512]⟩
abbrev S5600x128 : Shape := ⟨2, ![5600, 128]⟩
abbrev S32x128 : Shape := ⟨2, ![32, 128]⟩

abbrev nBuf : Space → Nat
  | .hbm => 2
  | .vmem => 4
  | .smem => 0
  | _ => 0

abbrev bufTy : (tb : Table) → Fin (tcTables nBuf tb) → BufTy
  | .hbm, ⟨0, _⟩ => ⟨S700000x512, .i8⟩
  | .hbm, ⟨1, _⟩ => ⟨S700000x128, .i32⟩
  | .local _ .vmem, ⟨0, _⟩ => ⟨S5600x512, .i8⟩
  | .local _ .vmem, ⟨1, _⟩ => ⟨S5600x512, .i8⟩
  | .local _ .vmem, ⟨2, _⟩ => ⟨S5600x128, .i32⟩
  | .local _ .vmem, ⟨3, _⟩ => ⟨S5600x128, .i32⟩
  | _, _ => ⟨S700000x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![125], ![false]⟩

@[reducible] def k0_t1_loop : Scf.Loop 32 :=
  let c0_i32 : BitVec 32 := 0#32
  let c35_i32 : BitVec 32 := 35#32
  let v0 : BitVec 32 := Scalar.addi c0_i32 c35_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c5_i32 : BitVec 32 := 5#32
  let v1 : BitVec 32 := Scalar.muli arg3 c5_i32
  let c0_i32_1 : BitVec 32 := 0#32
  let v2 : BitVec 32 := Scalar.addi v1 c0_i32_1
  let c32_i32 : BitVec 32 := 32#32
  let v3 : BitVec 32 := Scalar.muli v2 c32_i32
  v3
def k0_off1 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c5_i32 : BitVec 32 := 5#32
  let v1 : BitVec 32 := Scalar.muli arg3 c5_i32
  let v2 : BitVec 32 := Scalar.addi v1 c0_i32_1
  let c32_i32 : BitVec 32 := 32#32
  let v3 : BitVec 32 := Scalar.muli v2 c32_i32
  let v4 : BitVec 32 := v3
  let v5 : Index := Scalar.indexCast v4
  let c0 : Index := 0#32
  ![v5.toNat, 0]
def k0_off2 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c5_i32 : BitVec 32 := 5#32
  let v1 : BitVec 32 := Scalar.muli arg3 c5_i32
  let v2 : BitVec 32 := Scalar.addi v1 c0_i32_1
  let c32_i32 : BitVec 32 := 32#32
  let v3 : BitVec 32 := Scalar.muli v2 c32_i32
  let v4 : BitVec 32 := v3
  let v10 : Index := Scalar.indexCast v4
  let c128 : Index := 128#32
  ![v10.toNat, 128]
def k0_off3 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c5_i32 : BitVec 32 := 5#32
  let v1 : BitVec 32 := Scalar.muli arg3 c5_i32
  let v2 : BitVec 32 := Scalar.addi v1 c0_i32_1
  let c32_i32 : BitVec 32 := 32#32
  let v3 : BitVec 32 := Scalar.muli v2 c32_i32
  let v4 : BitVec 32 := v3
  let v16 : Index := Scalar.indexCast v4
  let c256 : Index := 256#32
  ![v16.toNat, 256]
def k0_off4 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c5_i32 : BitVec 32 := 5#32
  let v1 : BitVec 32 := Scalar.muli arg3 c5_i32
  let v2 : BitVec 32 := Scalar.addi v1 c0_i32_1
  let c32_i32 : BitVec 32 := 32#32
  let v3 : BitVec 32 := Scalar.muli v2 c32_i32
  let v4 : BitVec 32 := v3
  let v22 : Index := Scalar.indexCast v4
  let c384 : Index := 384#32
  ![v22.toNat, 384]
def k0_off5 (k0_t1 : Fin k0_t1_loop.trips) (c0_i32_1 : BitVec 32) : Fin 2 → Nat :=
  let c0_i32 : BitVec 32 := 0#32
  let c1_i32 : BitVec 32 := 1#32
  let arg3 : BitVec 32 := Scf.iv c0_i32 c1_i32 k0_t1
  let c5_i32 : BitVec 32 := 5#32
  let v1 : BitVec 32 := Scalar.muli arg3 c5_i32
  let v2 : BitVec 32 := Scalar.addi v1 c0_i32_1
  let c32_i32 : BitVec 32 := 32#32
  let v3 : BitVec 32 := Scalar.muli v2 c32_i32
  let v4 : BitVec 32 := v3
  let v28 : Index := Scalar.indexCast v4
  let c0_3 : Index := 0#32
  ![v28.toNat, 0]
def k0_mult2 (k0_t1 : Fin k0_t1_loop.trips) : BitVec 32 :=
  let c0_i32 : BitVec 32 := 0#32
  let c1_i32 : BitVec 32 := 1#32
  let arg3 : BitVec 32 := Scf.iv c0_i32 c1_i32 k0_t1
  let c5_i32_4 : BitVec 32 := 5#32
  let v30 : BitVec 32 := Scalar.muli arg3 c5_i32_4
  let c1_i32_5 : BitVec 32 := 1#32
  let v31 : BitVec 32 := Scalar.addi v30 c1_i32_5
  let c32_i32_6 : BitVec 32 := 32#32
  let v32 : BitVec 32 := Scalar.muli v31 c32_i32_6
  v32
def k0_mult3 (k0_t1 : Fin k0_t1_loop.trips) : BitVec 32 :=
  let c0_i32 : BitVec 32 := 0#32
  let c1_i32 : BitVec 32 := 1#32
  let arg3 : BitVec 32 := Scf.iv c0_i32 c1_i32 k0_t1
  let c5_i32_16 : BitVec 32 := 5#32
  let v59 : BitVec 32 := Scalar.muli arg3 c5_i32_16
  let c2_i32 : BitVec 32 := 2#32
  let v60 : BitVec 32 := Scalar.addi v59 c2_i32
  let c32_i32_17 : BitVec 32 := 32#32
  let v61 : BitVec 32 := Scalar.muli v60 c32_i32_17
  v61
def k0_mult4 (k0_t1 : Fin k0_t1_loop.trips) : BitVec 32 :=
  let c0_i32 : BitVec 32 := 0#32
  let c1_i32 : BitVec 32 := 1#32
  let arg3 : BitVec 32 := Scf.iv c0_i32 c1_i32 k0_t1
  let c5_i32_27 : BitVec 32 := 5#32
  let v88 : BitVec 32 := Scalar.muli arg3 c5_i32_27
  let c3_i32 : BitVec 32 := 3#32
  let v89 : BitVec 32 := Scalar.addi v88 c3_i32
  let c32_i32_28 : BitVec 32 := 32#32
  let v90 : BitVec 32 := Scalar.muli v89 c32_i32_28
  v90
def k0_mult5 (k0_t1 : Fin k0_t1_loop.trips) : BitVec 32 :=
  let c0_i32 : BitVec 32 := 0#32
  let c1_i32 : BitVec 32 := 1#32
  let arg3 : BitVec 32 := Scf.iv c0_i32 c1_i32 k0_t1
  let c5_i32_38 : BitVec 32 := 5#32
  let v117 : BitVec 32 := Scalar.muli arg3 c5_i32_38
  let c4_i32 : BitVec 32 := 4#32
  let v118 : BitVec 32 := Scalar.addi v117 c4_i32
  let c32_i32_39 : BitVec 32 := 32#32
  let v119 : BitVec 32 := Scalar.muli v118 c32_i32_39
  v119
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5600x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5600x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RepackReferenceIdeal.lean ====
abbrev S700000x512 : Shape := ⟨2, ![700000, 512]⟩
abbrev S700000x128 : Shape := ⟨2, ![700000, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S700000x512, .i8⟩
  | .hbm, ⟨1, _⟩ => ⟨S700000x128, .i8⟩
  | .hbm, ⟨2, _⟩ => ⟨S700000x128, .i32⟩
  | .hbm, ⟨3, _⟩ => ⟨S700000x128, .i8⟩
  | .hbm, ⟨4, _⟩ => ⟨S700000x128, .i32⟩
  | .hbm, ⟨5, _⟩ => ⟨S700000x128, .i8⟩
  | .hbm, ⟨6, _⟩ => ⟨S700000x128, .i32⟩
  | .hbm, ⟨7, _⟩ => ⟨S700000x128, .i8⟩
  | .hbm, ⟨8, _⟩ => ⟨S700000x128, .i32⟩
  | .hbm, ⟨9, _⟩ => ⟨S_, .i32⟩
  | .hbm, ⟨10, _⟩ => ⟨S700000x128, .i32⟩
  | .hbm, ⟨11, _⟩ => ⟨S700000x128, .i32⟩
  | .hbm, ⟨12, _⟩ => ⟨S700000x128, .i32⟩
  | .hbm, ⟨13, _⟩ => ⟨S_, .i32⟩
  | .hbm, ⟨14, _⟩ => ⟨S700000x128, .i32⟩
  | .hbm, ⟨15, _⟩ => ⟨S700000x128, .i32⟩
  | .hbm, ⟨16, _⟩ => ⟨S700000x128, .i32⟩
  | .hbm, ⟨17, _⟩ => ⟨S_, .i32⟩
  | .hbm, ⟨18, _⟩ => ⟨S700000x128, .i32⟩
  | .hbm, ⟨19, _⟩ => ⟨S700000x128, .i32⟩
  | .hbm, ⟨20, _⟩ => ⟨S700000x128, .i32⟩
  | _, _ => ⟨S700000x512, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Proof.FrameKernel.lean ====
module
public import proofs.«01_k».proof.Proof.Gen.Kernel.Frame.Runs
public import Idealize.ShloMosaic.Lib.Claim
@[expose] public section
set_option maxRecDepth 16384
noncomputable section

/-!
The frame of the kernel: every run ends, with the arguments unchanged and the counters at zero. What the kernel leaves in
its four result windows is not named here.
-/
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- One grid step runs, keeping its input blocks. -/
theorem run_body (c : Dev nD) (i : grid0.Coords) (arg1 : Memref sig .tc .vmem S4x1024x128 .f32) (harg1 : arg1.IsWhole) (arg2 : Memref sig .tc .vmem S1024x128 .i32) (harg2 : arg2.IsWhole) (arg3 : Memref sig .tc .vmem S1024x512 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1024x512 .i8) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole)
    (x0 : Vec F S4x1024x128 .f32) (x1 : Vec F S1024x128 .i32) (x2 : Vec F S1024x512 .i32) (x3 : Vec F S8x128 .f32) (x4 : Vec F S8x128 .f32) (x5 : Vec F S8x128 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_adagrad_requant i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_adagrad_requant_eq_skeleton]; unfold cc0_adagrad_requant_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

variable (m : (ℓ : Loc nD τ sig) → Buf (Elt F) ℓ) (ρ : Dev nD → PrngReg)

/-! ## The pipeline's proof data -/

/-- The four result windows are forgotten. -/
def forgets0 (w : Fin cfg0.W) : Bool := Nat.ble 6 w.val

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_body c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1.arr_in c 0 rfl).trans (V_main_arg0 m c), (h.1.arr_in c 1 rfl).trans (V_main_arg1 m c), (h.1.arr_in c 2 rfl).trans (V_main_arg2 m c), (h.1.arr_in c 3 rfl).trans (V_main_arg3 m c), (h.1.arr_in c 4 rfl).trans (V_main_arg4 m c), (h.1.arr_in c 5 rfl).trans (V_main_arg5 m c)⟩, h.2⟩)
    (run_main_quiescent m ρ)

end Cert.Kernel.Hand
-- ==== Proof.Row.lean ====
module

public import Idealize.ShloMosaic.Lib.Pointwise
@[expose] public section
set_option maxRecDepth 16384
noncomputable section

/-!
The update of one embedding row, on the extended reals.

A row has 512 columns, seen here as four planes of 128: column `128 * j + x` is entry `x` of plane `j`.
-/
namespace Cert.Row
open Idealize.ShloMosaic

/-- The new state of a row: the old one plus the mean of the squared gradient. -/
def state (g : Fin 4 → Fin 128 → EReal) (mo : EReal) : EReal :=
  mo + (∑ x, (g 0 x * g 0 x + g 1 x * g 1 x + g 2 x * g 2 x + g 3 x * g 3 x)) * Ideal.ofBits .f32 0x3B000000#32

/-- The step of a row whose new state is `s`. -/
def step (s : EReal) : EReal :=
  Ideal.div (Ideal.ofBits .f32 0x3CA3D70A#32) (Ideal.sqrt s + Ideal.ofBits .f32 0x322BCC77#32)

/-- Byte `j` of a packed word, as an integer. -/
def byte (x : BitVec 32) (j : Fin 4) : BitVec 32 :=
  IntOp.andi (IntOp.shrui .vector x (BitVec.ofNat 32 (8 * j.val))) 255#32

/-- The updated row, not yet quantised. -/
def weight (g : Fin 4 → Fin 128 → EReal) (c : Fin 128 → BitVec 32) (sc bi mo : EReal) (j : Fin 4) (x : Fin 128) : EReal :=
  (FloatOps.sitofp (F := Ideal) .f32 (byte (c x) j) : EReal) * sc + bi - step (state g mo) * g j x

/-- The smallest entry of a row. -/
def least (w : Fin 4 → Fin 128 → EReal) : EReal :=
  Finset.fold min (Ideal.ofBits .f32 0x7F800000#32) (fun x => min (min (w 0 x) (w 1 x)) (min (w 2 x) (w 3 x))) Finset.univ

/-- The spread of a row: its largest entry less its smallest. -/
def spread (w : Fin 4 → Fin 128 → EReal) : EReal :=
  Finset.fold max (Ideal.ofBits .f32 0xFF800000#32) (fun x => max (max (w 0 x) (w 1 x)) (max (w 2 x) (w 3 x))) Finset.univ
    - least w

/-- The scale of the requantised row. -/
def scale (w : Fin 4 → Fin 128 → EReal) : EReal := Ideal.div (spread w) (Ideal.ofBits .f32 0x437F0000#32)

/-- The code of entry `x` in a row of smallest entry `mn` and spread `rg`, rounded with the random word `rn`. -/
def code (x mn rg : EReal) (rn : BitVec 32) : BitVec 8 :=
  BitVec.setWidth 8
    (FloatOps.fptosi (F := Ideal) (φ := .f32) 32
      (min (Ideal.ofBits .f32 0x437F0000#32)
        (max 0
          (Ideal.liftRound Int.floor
            ((x - mn) * Ideal.div (Ideal.ofBits .f32 0x437F0000#32) (rg + Ideal.ofBits .f32 0x322BCC77#32) +
              (FloatOps.sitofp (F := Ideal) .f32 (IntOp.shrui .vector rn 8#32) : EReal) *
                Ideal.ofBits .f32 0x33800000#32)))))

/-- Column `128 * j + x`. -/
def col (j : Fin 4) (x : Fin 128) : Fin 512 := ⟨j.val * 128 + x.val, by omega⟩

/-- Reading column `128 * j + x` of four planes laid side by side. -/
theorem pick {α : Type} (f : Fin 4 → Fin 128 → α) (j : Fin 4) (x : Fin 128) :
    (if h : (col j x).val < 128 then f 0 ⟨(col j x).val, h⟩
    else if h : (col j x).val - 128 < 128 then f 1 ⟨(col j x).val - 128, h⟩
    else if h : (col j x).val - 128 - 128 < 128 then f 2 ⟨(col j x).val - 128 - 128, h⟩
    else f 3 ⟨(col j x).val - 128 - 128 - 128, by omega⟩) = f j x := by
  have hx := x.isLt
  have hc : (col j x).val = j.val * 128 + x.val := rfl
  split_ifs with h1 h2 h3
  · have hj : j = 0 := Fin.ext (by simp; omega)
    subst hj; congr 1; ext; simp [hc]
  · have hj : j = 1 := Fin.ext (by simp; omega)
    subst hj; congr 1; ext; simp [hc]
  · have hj : j = 2 := Fin.ext (by simp; omega)
    subst hj; congr 1; ext; simp [hc]; omega
  · have hj : j = 3 := Fin.ext (by simp; omega)
    subst hj; congr 1; ext; simp [hc]; omega

theorem ofBits_512 : Ideal.ofBits .f32 0x44000000#32 = ((512 : ℝ) : EReal) := by
  have h : BitVec.extractLsb' 31 1 1140850688#32 = 0#1 := by decide
  norm_num [Ideal.ofBits, Ideal.ieee, Nat.shiftRight_eq_div_pow, h]

theorem ofBits_inv512 : Ideal.ofBits .f32 0x3B000000#32 = ((1 / 512 : ℝ) : EReal) := by
  have h : BitVec.extractLsb' 31 1 989855744#32 = 0#1 := by decide
  norm_num [Ideal.ofBits, Ideal.ieee, Nat.shiftRight_eq_div_pow, h]

/-- The mean over the 512 columns, a plane at a time. -/
theorem mean_planes (f : Fin 512 → EReal) :
    Ideal.div (∑ k, f k) (Ideal.ofBits .f32 0x44000000#32)
      = (∑ x, (f (col 0 x) + f (col 1 x) + f (col 2 x) + f (col 3 x))) * Ideal.ofBits .f32 0x3B000000#32 := by
  rw [ofBits_512, ofBits_inv512, Ideal.div_coe (by norm_num), Fin.sum_univ_tiles 4 128 rfl f, Finset.sum_comm]
  refine congrArg (· * _) (Finset.sum_congr rfl fun x _ => ?_)
  rw [Fin.sum_univ_four]
  rfl

theorem exists_col (k : Fin 512) : ∃ j x, k = col j x :=
  ⟨⟨k.val / 128, by omega⟩, ⟨k.val % 128, by omega⟩, Fin.ext (by simp only [col]; omega)⟩

theorem fold_min_planes (b : EReal) (f : Fin 512 → EReal) :
    Finset.fold min b f Finset.univ
      = Finset.fold min b (fun x => min (min (f (col 0 x)) (f (col 1 x))) (min (f (col 2 x)) (f (col 3 x)))) Finset.univ := by
  refine eq_of_forall_le_iff fun c => ?_
  simp only [Finset.le_fold_min, Finset.mem_univ, forall_true_left, le_min_iff]
  refine and_congr_right fun _ => ⟨fun h x => ⟨⟨h _, h _⟩, h _, h _⟩, fun h k => ?_⟩
  obtain ⟨j, x, rfl⟩ := exists_col k
  fin_cases j
  exacts [(h x).1.1, (h x).1.2, (h x).2.1, (h x).2.2]

theorem fold_max_planes (b : EReal) (f : Fin 512 → EReal) :
    Finset.fold max b f Finset.univ
      = Finset.fold max b (fun x => max (max (f (col 0 x)) (f (col 1 x))) (max (f (col 2 x)) (f (col 3 x)))) Finset.univ := by
  refine eq_of_forall_ge_iff fun c => ?_
  simp only [Finset.fold_max_le, Finset.mem_univ, forall_true_left, max_le_iff]
  refine and_congr_right fun _ => ⟨fun h x => ⟨⟨h _, h _⟩, h _, h _⟩, fun h k => ?_⟩
  obtain ⟨j, x, rfl⟩ := exists_col k
  fin_cases j
  exacts [(h x).1.1, (h x).1.2, (h x).2.1, (h x).2.2]

/-- An arithmetic shift brings in the same byte as a logical one. -/
theorem byte_host (x : BitVec 32) (j : Fin 4) :
    IntOp.andi (IntOp.shrsi .host x (BitVec.ofNat 32 (8 * j.val))) 255#32 = byte x j := by
  unfold byte IntOp.andi IntOp.shrsi IntOp.shrui
  fin_cases j <;> ext i hi
  · simp
  all_goals
    simp only [Nat.reduceMul, BitVec.reduceOfNat, BitVec.reduceToNat, Nat.reduceLT, if_true, BitVec.sshiftRight_eq',
      BitVec.getElem_and, BitVec.getElem_sshiftRight, BitVec.ushiftRight_eq', BitVec.getElem_ushiftRight]
    interval_cases i <;> simp

/-- A word whose top eight bits are zero is the same number signed and unsigned. -/
theorem rand_host (x : BitVec 32) :
    (FloatOps.uitofp (F := Ideal) .f32 (IntOp.shrui .host x 8#32) : EReal)
      = FloatOps.sitofp (F := Ideal) .f32 (IntOp.shrui .vector x 8#32) := by
  show (((IntOp.shrui .host x 8#32).toNat : ℝ) : EReal) = (((IntOp.shrui .vector x 8#32).toInt : ℝ) : EReal)
  have h : (x >>> 8#32).toInt = (x >>> 8#32).toNat := by
    rw [BitVec.toInt_eq_toNat_of_lt]
    have := x.isLt
    simp only [BitVec.ushiftRight_eq', BitVec.toNat_ushiftRight, BitVec.reduceToNat, Nat.shiftRight_eq_div_pow]
    omega
  rw [show IntOp.shrui .host x 8#32 = x >>> 8#32 from rfl, show IntOp.shrui .vector x 8#32 = x >>> 8#32 from rfl, h]
  push_cast
  rfl

end Cert.Row
-- ==== Proof.KerPure.lean ====
module

public import proofs.«01_k».proof.Proof.Gen.KernelIdeal.Frame.Runs
public import Idealize.ShloMosaic.Lib.Pipeline.ValueKit
public import Idealize.ShloMosaic.Lib.Pipeline.ReadBack
public import Idealize.ShloMosaic.Lib.Pointwise
public import proofs.«01_k».proof.Proof.Row
@[expose] public section
set_option maxRecDepth 16384
noncomputable section

/-!
The payloads of the kernel, read one entry at a time.
-/
namespace Cert.KernelIdeal.Hand
open Cert.KernelIdeal Cert.KernelIdeal.Gen Idealize.ShloMosaic Idealize.ShloMosaic.TcCoe Idealize.SL.Sem
variable {F : FTy → Type} [FloatOps F]

variable (g0 g1 g2 g3 : Vec Ideal S1x32x128 .f32) (a11 a12 a13 : Vec Ideal S32x128 .f32) (cd rn : Vec Ideal S32x128 .i32)
variable (p0 p1 p2 p3 w t37 : FVec Ideal S32x128 .f32) (mn rg : FVec Ideal S32x1 .f32)

/-- Row `r` of the four gradient planes. -/
def planes (r : Fin 32) (j : Fin 4) (x : Fin 128) : EReal :=
  match j with
  | 0 => g0 (ix3 0 r x)
  | 1 => g1 (ix3 0 r x)
  | 2 => g2 (ix3 0 r x)
  | 3 => g3 (ix3 0 r x)

/-- The four planes of one row. -/
def four (f0 f1 f2 f3 : Fin 128 → EReal) (j : Fin 4) : Fin 128 → EReal :=
  match j with
  | 0 => f0
  | 1 => f1
  | 2 => f2
  | 3 => f3

theorem pay1_apply (v : Vec Ideal S1x128 .f32) (r l : Fin 128) : k0_pay1 v (ix2 r l) = v (ix2 0 r) := by
  pointwise [k0_pay1]

theorem pay2_apply (v : Vec Ideal S1x128 .f32) (r l : Fin 128) : k0_pay2 v (ix2 r l) = v (ix2 0 r) := by
  pointwise [k0_pay2]

theorem pay3_apply (v : Vec Ideal S1x128 .f32) (r l : Fin 128) : k0_pay3 v (ix2 r l) = v (ix2 0 r) := by
  pointwise [k0_pay3]

theorem pay6_apply (v : Vec Ideal S128x128 .f32) (l : Fin 128) : k0_pay6 v (ix2 0 l) = v (ix2 l 0) := by
  pointwise [k0_pay6, k0_pay5]

theorem pay7_apply (v : Vec Ideal S128x128 .f32) (l : Fin 128) : k0_pay7 v (ix2 0 l) = v (ix2 l 1) := by
  pointwise [k0_pay7, k0_pay5]

theorem pay8_apply (v : Vec Ideal S128x128 .f32) (l : Fin 128) : k0_pay8 v (ix2 0 l) = v (ix2 l 2) := by
  pointwise [k0_pay8, k0_pay5]

theorem pay9_apply (r : Fin 32) (x : Fin 128) : k0_pay9 g0 (ix2 r x) = g0 (ix3 0 r x) := by
  pointwise [k0_pay9]

theorem pay10_apply (r : Fin 32) (x : Fin 128) : k0_pay10 g0 (ix2 r x) = g0 (ix3 0 r x) := by
  pointwise [k0_pay10]

theorem pay11_apply (r : Fin 32) (x : Fin 128) : k0_pay11 g0 (ix2 r x) = g0 (ix3 0 r x) := by
  pointwise [k0_pay11]

theorem pay12_apply (r : Fin 32) (x : Fin 128) : k0_pay12 g0 (ix2 r x) = g0 (ix3 0 r x) := by
  pointwise [k0_pay12]

theorem pay13_apply (r : Fin 32) (l : Fin 128) :
    k0_pay13 g0 g1 g2 g3 a13 (ix2 r l) = Row.state (planes g0 g1 g2 g3 r) (a13 (ix2 r l)) := by
  pointwise [k0_pay13, k0_pay9, k0_pay10, k0_pay11, k0_pay12]
  rfl

theorem pay14_apply (r : Fin 32) (l : Fin 128) :
    k0_pay14 g0 g1 g2 g3 a13 (ix2 r l) = Row.step (Row.state (planes g0 g1 g2 g3 r) (a13 (ix2 r l))) := by
  pointwise [k0_pay14]
  rw [pay13_apply]
  rfl

theorem pay16_apply (r : Fin 32) (l : Fin 128) :
    k0_pay16 p0 t37 a11 a12 cd k0_pay15 (ix2 r l)
      = (FloatOps.sitofp (F := Ideal) .f32 (Row.byte (cd (ix2 r l)) 0) : EReal) * a11 (ix2 r l) + a12 (ix2 r l)
        - t37 (ix2 r l) * p0 (ix2 r l) := by
  pointwise [k0_pay16, k0_pay15]
  rfl

theorem pay17_apply (r : Fin 32) (l : Fin 128) :
    k0_pay17 p0 t37 a11 a12 cd (ix2 r l)
      = (FloatOps.sitofp (F := Ideal) .f32 (Row.byte (cd (ix2 r l)) 1) : EReal) * a11 (ix2 r l) + a12 (ix2 r l)
        - t37 (ix2 r l) * p0 (ix2 r l) := by
  pointwise [k0_pay17]
  rfl

theorem pay18_apply (r : Fin 32) (l : Fin 128) :
    k0_pay18 p0 t37 a11 a12 cd (ix2 r l)
      = (FloatOps.sitofp (F := Ideal) .f32 (Row.byte (cd (ix2 r l)) 2) : EReal) * a11 (ix2 r l) + a12 (ix2 r l)
        - t37 (ix2 r l) * p0 (ix2 r l) := by
  pointwise [k0_pay18]
  rfl

theorem pay19_apply (r : Fin 32) (l : Fin 128) :
    k0_pay19 p0 t37 a11 a12 cd (ix2 r l)
      = (FloatOps.sitofp (F := Ideal) .f32 (Row.byte (cd (ix2 r l)) 3) : EReal) * a11 (ix2 r l) + a12 (ix2 r l)
        - t37 (ix2 r l) * p0 (ix2 r l) := by
  pointwise [k0_pay19]
  rfl

/-- The updated row `r`, in planes. -/
abbrev rows (r : Fin 32) : Fin 4 → Fin 128 → EReal :=
  four (fun x => k0_pay16 p0 t37 a11 a12 cd k0_pay15 (ix2 r x)) (fun x => k0_pay17 p1 t37 a11 a12 cd (ix2 r x))
    (fun x => k0_pay18 p2 t37 a11 a12 cd (ix2 r x)) (fun x => k0_pay19 p3 t37 a11 a12 cd (ix2 r x))

theorem pay20_apply (r : Fin 32) :
    k0_pay20 p0 p1 p2 p3 t37 a11 a12 cd k0_pay15 (ix2 r 0) = Row.least (rows a11 a12 cd p0 p1 p2 p3 t37 r) := by
  pointwise [k0_pay20]
  rfl

theorem pay21_apply (r : Fin 32) :
    k0_pay21 p0 p1 p2 p3 t37 a11 a12 cd k0_pay15 (ix2 r 0) = Row.spread (rows a11 a12 cd p0 p1 p2 p3 t37 r) := by
  pointwise [k0_pay21]
  rw [pay20_apply]
  rfl

theorem pay22_apply (r : Fin 32) :
    k0_pay22 p0 p1 p2 p3 t37 a11 a12 cd k0_pay15 (ix2 r 0)
      = Row.spread (rows a11 a12 cd p0 p1 p2 p3 t37 r) + Ideal.ofBits .f32 0x322BCC77#32 := by
  pointwise [k0_pay22]
  rw [pay21_apply]

theorem pay25_apply (r : Fin 32) (l : Fin 128) (s : EReal) (h : rg (ix2 r 0) = s + Ideal.ofBits .f32 0x322BCC77#32) :
    k0_pay25 w mn rg k0_pay23 rn (ix2 r l) = Row.code (w (ix2 r l)) (mn (ix2 r 0)) s (rn (ix2 r l)) := by
  pointwise [k0_pay25, k0_pay24, k0_pay23]
  rw [h]
  rfl

theorem pay26_apply (r : Fin 32) (l : Fin 128) (s : EReal) (h : rg (ix2 r 0) = s + Ideal.ofBits .f32 0x322BCC77#32) :
    k0_pay26 w mn rg k0_pay23 rn (ix2 r l) = Row.code (w (ix2 r l)) (mn (ix2 r 0)) s (rn (ix2 r l)) := by
  pointwise [k0_pay26, k0_pay24, k0_pay23]
  rw [h]
  rfl

theorem pay27_apply (r : Fin 32) (l : Fin 128) (s : EReal) (h : rg (ix2 r 0) = s + Ideal.ofBits .f32 0x322BCC77#32) :
    k0_pay27 w mn (k0_pay24 rg k0_pay23) rn (ix2 r l) = Row.code (w (ix2 r l)) (mn (ix2 r 0)) s (rn (ix2 r l)) := by
  pointwise [k0_pay27, k0_pay24, k0_pay23]
  rw [h]
  rfl

theorem pay28_apply (r : Fin 32) (l : Fin 128) (s : EReal) (h : rg (ix2 r 0) = s + Ideal.ofBits .f32 0x322BCC77#32) :
    k0_pay28 w mn (k0_pay24 rg k0_pay23) rn (ix2 r l) = Row.code (w (ix2 r l)) (mn (ix2 r 0)) s (rn (ix2 r l)) := by
  pointwise [k0_pay28, k0_pay24, k0_pay23]
  rw [h]
  rfl

theorem pay4_apply (r : Fin 32) (l : Fin 128) :
    k0_pay4 w mn (k0_pay29 (iota .tc S32x128 32 [1] iota_S32x128_d1_w32)) (k0_pay30 rg) 1#32 (ix2 r l)
      = Scalar.select (IntOp.cmpi CmpIPredicate.eq (BitVec.ofNat 32 l.val) 0#32)
          (Ideal.div (rg (ix2 r 0)) (Ideal.ofBits .f32 0x437F0000#32))
          (Scalar.select (IntOp.cmpi CmpIPredicate.eq (BitVec.ofNat 32 l.val) 1#32) (mn (ix2 r 0)) (w (ix2 r l))) := by
  pointwise [k0_pay4, k0_pay29, k0_pay30]

end Cert.KernelIdeal.Hand
-- ==== Proof.KerRow.lean ====
module
public import proofs.«01_k».proof.Proof.KerPure
@[expose] public section
set_option maxRecDepth 16384
noncomputable section

/-!
One sub-block of 32 rows: every value the second loop's trip computes, as the update of a row.
-/
namespace Cert.KernelIdeal.Hand
open Cert.KernelIdeal Cert.KernelIdeal.Gen Idealize.ShloMosaic Idealize.ShloMosaic.TcCoe Idealize.SL.Sem

variable (g0 g1 g2 g3 : Vec Ideal S1x32x128 .f32) (a11 a12 a13 : Vec Ideal S32x128 .f32) (cd rn : Vec Ideal S32x128 .i32)

/-- The updated entries of plane 0. -/
abbrev trW0 : FVec Ideal S32x128 .f32 := k0_pay16 (k0_pay9 g0) (k0_pay14 g0 g1 g2 g3 a13) a11 a12 cd k0_pay15
/-- The updated entries of plane 1. -/
abbrev trW1 : FVec Ideal S32x128 .f32 := k0_pay17 (k0_pay10 g1) (k0_pay14 g0 g1 g2 g3 a13) a11 a12 cd
/-- The updated entries of plane 2. -/
abbrev trW2 : FVec Ideal S32x128 .f32 := k0_pay18 (k0_pay11 g2) (k0_pay14 g0 g1 g2 g3 a13) a11 a12 cd
/-- The updated entries of plane 3. -/
abbrev trW3 : FVec Ideal S32x128 .f32 := k0_pay19 (k0_pay12 g3) (k0_pay14 g0 g1 g2 g3 a13) a11 a12 cd
/-- The smallest entries. -/
abbrev trMn : FVec Ideal S32x1 .f32 :=
  k0_pay20 (k0_pay9 g0) (k0_pay10 g1) (k0_pay11 g2) (k0_pay12 g3) (k0_pay14 g0 g1 g2 g3 a13) a11 a12 cd k0_pay15
/-- The spreads. -/
abbrev trRg : FVec Ideal S32x1 .f32 :=
  k0_pay21 (k0_pay9 g0) (k0_pay10 g1) (k0_pay11 g2) (k0_pay12 g3) (k0_pay14 g0 g1 g2 g3 a13) a11 a12 cd k0_pay15
/-- The spreads, kept off zero. -/
abbrev trRe : FVec Ideal S32x1 .f32 :=
  k0_pay22 (k0_pay9 g0) (k0_pay10 g1) (k0_pay11 g2) (k0_pay12 g3) (k0_pay14 g0 g1 g2 g3 a13) a11 a12 cd k0_pay15

/-- What a trip computes from: the row's planes and codes, and arrays that hold the row's parameters on every lane. -/
structure RowIn (r : Fin 32) (g : Fin 4 → Fin 128 → EReal) (c : Fin 128 → BitVec 32) (sc bi mo : EReal) : Prop where
  h0 : ∀ x, g0 (ix3 0 r x) = g 0 x
  h1 : ∀ x, g1 (ix3 0 r x) = g 1 x
  h2 : ∀ x, g2 (ix3 0 r x) = g 2 x
  h3 : ∀ x, g3 (ix3 0 r x) = g 3 x
  h11 : ∀ x, a11 (ix2 r x) = sc
  h12 : ∀ x, a12 (ix2 r x) = bi
  h13 : ∀ x, a13 (ix2 r x) = mo
  hc : ∀ x, cd (ix2 r x) = c x

variable {g0 g1 g2 g3 a11 a12 a13 cd}
variable {r : Fin 32} {g : Fin 4 → Fin 128 → EReal} {c : Fin 128 → BitVec 32} {sc bi mo : EReal}

theorem RowIn.planes_eq (h : RowIn g0 g1 g2 g3 a11 a12 a13 cd r g c sc bi mo) : planes g0 g1 g2 g3 r = g := by
  funext j x
  fin_cases j
  exacts [h.h0 x, h.h1 x, h.h2 x, h.h3 x]

theorem RowIn.st (h : RowIn g0 g1 g2 g3 a11 a12 a13 cd r g c sc bi mo) (l : Fin 128) :
    k0_pay13 g0 g1 g2 g3 a13 (ix2 r l) = Row.state g mo := by
  rw [pay13_apply, h.planes_eq, h.h13]

theorem RowIn.w0 (h : RowIn g0 g1 g2 g3 a11 a12 a13 cd r g c sc bi mo) (l : Fin 128) :
    trW0 g0 g1 g2 g3 a11 a12 a13 cd (ix2 r l) = Row.weight g c sc bi mo 0 l := by
  rw [trW0, pay16_apply, pay14_apply, pay9_apply, h.planes_eq, h.h11, h.h12, h.h13, h.hc, h.h0]
  rfl

theorem RowIn.w1 (h : RowIn g0 g1 g2 g3 a11 a12 a13 cd r g c sc bi mo) (l : Fin 128) :
    trW1 g0 g1 g2 g3 a11 a12 a13 cd (ix2 r l) = Row.weight g c sc bi mo 1 l := by
  rw [trW1, pay17_apply, pay14_apply, pay10_apply, h.planes_eq, h.h11, h.h12, h.h13, h.hc, h.h1]
  rfl

theorem RowIn.w2 (h : RowIn g0 g1 g2 g3 a11 a12 a13 cd r g c sc bi mo) (l : Fin 128) :
    trW2 g0 g1 g2 g3 a11 a12 a13 cd (ix2 r l) = Row.weight g c sc bi mo 2 l := by
  rw [trW2, pay18_apply, pay14_apply, pay11_apply, h.planes_eq, h.h11, h.h12, h.h13, h.hc, h.h2]
  rfl

theorem RowIn.w3 (h : RowIn g0 g1 g2 g3 a11 a12 a13 cd r g c sc bi mo) (l : Fin 128) :
    trW3 g0 g1 g2 g3 a11 a12 a13 cd (ix2 r l) = Row.weight g c sc bi mo 3 l := by
  rw [trW3, pay19_apply, pay14_apply, pay12_apply, h.planes_eq, h.h11, h.h12, h.h13, h.hc, h.h3]
  rfl

theorem RowIn.rows_eq (h : RowIn g0 g1 g2 g3 a11 a12 a13 cd r g c sc bi mo) :
    rows a11 a12 cd (k0_pay9 g0) (k0_pay10 g1) (k0_pay11 g2) (k0_pay12 g3) (k0_pay14 g0 g1 g2 g3 a13) r
      = Row.weight g c sc bi mo := by
  funext j x
  fin_cases j
  exacts [h.w0 x, h.w1 x, h.w2 x, h.w3 x]

theorem RowIn.mn (h : RowIn g0 g1 g2 g3 a11 a12 a13 cd r g c sc bi mo) :
    trMn g0 g1 g2 g3 a11 a12 a13 cd (ix2 r 0) = Row.least (Row.weight g c sc bi mo) := by
  rw [trMn, pay20_apply, h.rows_eq]

theorem RowIn.rg (h : RowIn g0 g1 g2 g3 a11 a12 a13 cd r g c sc bi mo) :
    trRg g0 g1 g2 g3 a11 a12 a13 cd (ix2 r 0) = Row.spread (Row.weight g c sc bi mo) := by
  rw [trRg, pay21_apply, h.rows_eq]

theorem RowIn.re (h : RowIn g0 g1 g2 g3 a11 a12 a13 cd r g c sc bi mo) :
    trRe g0 g1 g2 g3 a11 a12 a13 cd (ix2 r 0) = Row.spread (Row.weight g c sc bi mo) + Ideal.ofBits .f32 0x322BCC77#32 := by
  rw [trRe, pay22_apply, h.rows_eq]

theorem RowIn.code0 (h : RowIn g0 g1 g2 g3 a11 a12 a13 cd r g c sc bi mo) (l : Fin 128) :
    k0_pay25 (trW0 g0 g1 g2 g3 a11 a12 a13 cd) (trMn g0 g1 g2 g3 a11 a12 a13 cd) (trRe g0 g1 g2 g3 a11 a12 a13 cd) k0_pay23 rn (ix2 r l)
      = Row.code (Row.weight g c sc bi mo 0 l) (Row.least (Row.weight g c sc bi mo)) (Row.spread (Row.weight g c sc bi mo)) (rn (ix2 r l)) := by
  rw [pay25_apply (h := h.re), h.w0, h.mn]

theorem RowIn.code1 (h : RowIn g0 g1 g2 g3 a11 a12 a13 cd r g c sc bi mo) (l : Fin 128) :
    k0_pay26 (trW1 g0 g1 g2 g3 a11 a12 a13 cd) (trMn g0 g1 g2 g3 a11 a12 a13 cd) (trRe g0 g1 g2 g3 a11 a12 a13 cd) k0_pay23 rn (ix2 r l)
      = Row.code (Row.weight g c sc bi mo 1 l) (Row.least (Row.weight g c sc bi mo)) (Row.spread (Row.weight g c sc bi mo)) (rn (ix2 r l)) := by
  rw [pay26_apply (h := h.re), h.w1, h.mn]

theorem RowIn.code2 (h : RowIn g0 g1 g2 g3 a11 a12 a13 cd r g c sc bi mo) (l : Fin 128) :
    k0_pay27 (trW2 g0 g1 g2 g3 a11 a12 a13 cd) (trMn g0 g1 g2 g3 a11 a12 a13 cd) (k0_pay24 (trRe g0 g1 g2 g3 a11 a12 a13 cd) k0_pay23) rn (ix2 r l)
      = Row.code (Row.weight g c sc bi mo 2 l) (Row.least (Row.weight g c sc bi mo)) (Row.spread (Row.weight g c sc bi mo)) (rn (ix2 r l)) := by
  rw [pay27_apply (h := h.re), h.w2, h.mn]

theorem RowIn.code3 (h : RowIn g0 g1 g2 g3 a11 a12 a13 cd r g c sc bi mo) (l : Fin 128) :
    k0_pay28 (trW3 g0 g1 g2 g3 a11 a12 a13 cd) (trMn g0 g1 g2 g3 a11 a12 a13 cd) (k0_pay24 (trRe g0 g1 g2 g3 a11 a12 a13 cd) k0_pay23) rn (ix2 r l)
      = Row.code (Row.weight g c sc bi mo 3 l) (Row.least (Row.weight g c sc bi mo)) (Row.spread (Row.weight g c sc bi mo)) (rn (ix2 r l)) := by
  rw [pay28_apply (h := h.re), h.w3, h.mn]

/-- The three numbers a row keeps besides its codes, and where they stand among the lanes. -/
def keep (g : Fin 4 → Fin 128 → EReal) (c : Fin 128 → BitVec 32) (sc bi mo : EReal) (l : Fin 128) : EReal :=
  Scalar.select (IntOp.cmpi CmpIPredicate.eq (BitVec.ofNat 32 l.val) 0#32) (Row.scale (Row.weight g c sc bi mo))
    (Scalar.select (IntOp.cmpi CmpIPredicate.eq (BitVec.ofNat 32 l.val) 1#32) (Row.least (Row.weight g c sc bi mo)) (Row.state g mo))

theorem keep_0 : keep g c sc bi mo 0 = Row.scale (Row.weight g c sc bi mo) := by simp [keep, Scalar.select, IntOp.cmpi]

theorem keep_1 : keep g c sc bi mo 1 = Row.least (Row.weight g c sc bi mo) := by simp [keep, Scalar.select, IntOp.cmpi]

theorem keep_2 : keep g c sc bi mo 2 = Row.state g mo := by simp [keep, Scalar.select, IntOp.cmpi]

theorem RowIn.keep_eq (h : RowIn g0 g1 g2 g3 a11 a12 a13 cd r g c sc bi mo) (l : Fin 128) :
    k0_pay4 (k0_pay13 g0 g1 g2 g3 a13) (trMn g0 g1 g2 g3 a11 a12 a13 cd) (k0_pay29 (iota .tc S32x128 32 [1] iota_S32x128_d1_w32))
        (k0_pay30 (trRg g0 g1 g2 g3 a11 a12 a13 cd)) 1#32 (ix2 r l)
      = keep g c sc bi mo l := by
  rw [pay4_apply, h.rg, h.mn, h.st]
  rfl

end Cert.KernelIdeal.Hand
-- ==== Proof.Pieces.lean ====
module
public import Idealize.ShloMosaic.Lib.Pipeline.ValueKit
@[expose] public section
set_option maxRecDepth 16384
noncomputable section

/-!
Contents made up of the pieces that stores leave, and loads from rectangles, for any program.
-/
namespace Cert.Pieces
open Idealize.ShloMosaic Idealize.ShloMosaic.TcCoe Idealize.SL.Sem

variable {sig : RefSig}

section Pieces
variable {s : Shape} {e : EltTy} {Val : EltTy → Type}

/-- Pieces that agree with `G` and cover the shape leave `G`. -/
theorem read_writes_pieces {sp : Space} (v : View sig .tc sp s e) (f : v.ty.Contents Val) (G : s.Idx → Val e)
    (L : List (View.Piece Val s e)) (hG : ∀ p ∈ L, ∀ x, p.2 x = G (p.1.emb x)) (hc : ∀ y, ∃ p ∈ L, y ∈ p.1.set) :
    v.read Val (v.writes Val f L) = G := by
  have key : ∀ (L : List (View.Piece Val s e)), (∀ p ∈ L, ∀ x, p.2 x = G (p.1.emb x)) → ∀ y, (∃ p ∈ L, y ∈ p.1.set) →
      v.read Val (v.writes Val f L) y = G y := by
    intro L
    induction L with
    | nil => rintro - y ⟨_, h, _⟩; exact absurd h List.not_mem_nil
    | cons p L ih =>
      intro hG y hy
      by_cases hp : y ∈ p.1.set
      · obtain ⟨x, rfl⟩ : ∃ x, p.1.emb x = y := p.1.exists_idx_of_mem hp
        rw [View.read_writes_cons_emb]
        exact hG p List.mem_cons_self x
      · have hp' : y ∉ Finset.univ.map p.1.emb := by rwa [Rect.map_emb_univ]
        rw [View.writes_cons, View.read_slice_write_of_not_mem p.1 _ _ _ hp']
        refine ih (fun q hq => hG q (List.mem_cons_of_mem _ hq)) y ?_
        obtain ⟨q, hq, hyq⟩ := hy
        rcases List.mem_cons.mp hq with rfl | hq'
        · exact absurd hyq hp
        · exact ⟨q, hq', hyq⟩
  exact funext fun y => key L hG y (hc y)

/-- Membership in a list that grows by one trip at a time. -/
theorem mem_trips {α : Type} {n : ℕ} (pb : ℕ → List α) (trip : Fin n → List α) (h0 : pb 0 = [])
    (hs : ∀ k : Fin n, pb (k.val + 1) = trip k ++ pb k.val) (p : α) : p ∈ pb n ↔ ∃ k, p ∈ trip k := by
  have key : ∀ m, m ≤ n → (p ∈ pb m ↔ ∃ k : Fin n, k.val < m ∧ p ∈ trip k) := by
    intro m
    induction m with
    | zero => intro _; simp [h0]
    | succ m ih =>
      intro hm
      have := hs ⟨m, hm⟩
      simp only at this
      rw [this, List.mem_append, ih (by omega)]
      constructor
      · rintro (h | ⟨k, hk, h⟩)
        · exact ⟨⟨m, hm⟩, Nat.lt_succ_self m, h⟩
        · exact ⟨k, by omega, h⟩
      · rintro ⟨k, hk, h⟩
        by_cases hkm : k.val = m
        · left
          have : k = ⟨m, hm⟩ := Fin.ext hkm
          rwa [this] at h
        · exact Or.inr ⟨k, by omega, h⟩
  rw [key n le_rfl]
  exact ⟨fun ⟨k, _, h⟩ => ⟨k, h⟩, fun ⟨k, h⟩ => ⟨k, k.isLt, h⟩⟩

end Pieces

theorem idx2_ext {n0 n1 : ℕ} {i j : (⟨2, ![n0, n1]⟩ : Shape).Idx} (h0 : (i 0).val = (j 0).val) (h1 : (i 1).val = (j 1).val) : i = j :=
  funext fun a => Fin.ext (by fin_cases a; exacts [h0, h1])

theorem idx3_ext {n0 n1 n2 : ℕ} {i j : (⟨3, ![n0, n1, n2]⟩ : Shape).Idx} (h0 : (i 0).val = (j 0).val) (h1 : (i 1).val = (j 1).val)
    (h2 : (i 2).val = (j 2).val) : i = j :=
  funext fun a => Fin.ext (by fin_cases a; exacts [h0, h1, h2])

/-- A load from a buffer that reads `G`. -/
theorem readAt_of {s : Shape} {e : EltTy} {arg : Memref sig .tc .vmem s e} {X : BufTy.Contents (Elt Ideal) arg.view.ty}
    {G : s.Idx → Elt Ideal e} (hX : arg.view.read (Elt Ideal) X = G) (B : LoadRect s) (x : B.shape.Idx) :
    View.readAt (Elt Ideal) arg.view B X x = G (B.idx x) := congrFun hX _

/-- A load from a matrix reads row `o0 + r`, column `o1 + l`. -/
theorem readAt_of2 {n0 n1 : ℕ} {e : EltTy} {arg : Memref sig .tc .vmem ⟨2, ![n0, n1]⟩ e} {X : BufTy.Contents (Elt Ideal) arg.view.ty}
    {G : (⟨2, ![n0, n1]⟩ : Shape).Idx → Elt Ideal e} (hX : arg.view.read (Elt Ideal) X = G) {off off' size : Fin 2 → ℕ}
    (ho : off = off') (inb : ∀ a, off a + size a ≤ (⟨2, ![n0, n1]⟩ : Shape).size a)
    (x : (Rect.unit (s := ⟨2, ![n0, n1]⟩) off size inb).shape.Idx) (j : (⟨2, ![n0, n1]⟩ : Shape).Idx)
    (h0 : off' 0 + (x 0).val = (j 0).val) (h1 : off' 1 + (x 1).val = (j 1).val) :
    View.readAt (Elt Ideal) arg.view (Rect.unit (s := ⟨2, ![n0, n1]⟩) off size inb).toLoadRect X x = G j := by
  subst ho
  exact (readAt_of hX _ x).trans (congrArg G (idx2_ext (by rw [← h0]; exact congrArg _ (Nat.one_mul _)) (by rw [← h1]; exact congrArg _ (Nat.one_mul _))))

theorem emb_val {s : Shape} {off size : Fin s.rank → ℕ} (inb : ∀ a, off a + size a ≤ s.size a) (x : (Rect.unit off size inb).shape.Idx)
    (a : Fin s.rank) : ((Rect.unit off size inb).emb x a).val = off a + (x a).val := congrArg _ (Nat.one_mul _)

theorem emb_val_of {s : Shape} {off off' size : Fin s.rank → ℕ} (ho : off = off') (inb : ∀ a, off a + size a ≤ s.size a)
    (x : (Rect.unit off size inb).shape.Idx) (a : Fin s.rank) : ((Rect.unit off size inb).emb x a).val = off' a + (x a).val := by
  subst ho; exact emb_val inb x a

end Cert.Pieces
-- ==== Proof.Block.lean ====
module
public import proofs.«01_k».proof.Proof.KerRow
public import proofs.«01_k».proof.Proof.Pieces
@[expose] public section
set_option maxRecDepth 16384
noncomputable section

/-!
What one grid step leaves in its blocks: the pieces the three loops store, and the contents they make up.
-/
namespace Cert.KernelIdeal.Hand
open Cert.Pieces Cert.KernelIdeal Cert.KernelIdeal.Gen Idealize.ShloMosaic Idealize.ShloMosaic.TcCoe Idealize.SL.Sem

/-! ### The block's contents -/

variable (x0 : Vec Ideal S4x1024x128 .f32) (x1 : Vec Ideal S1024x128 .i32) (x2 : Vec Ideal S1024x512 .i32) (x3 x4 x5 : Vec Ideal S8x128 .f32)

/-- Row `n` of the block's gradient. -/
def gB (n : Fin 1024) (j : Fin 4) (x : Fin 128) : EReal := x0 (ix3 j n x)

/-- Row `n` of the block's packed codes. -/
def cB (n : Fin 1024) (x : Fin 128) : BitVec 32 := x1 (ix2 n x)

/-- Entry `n` of a block of one number per row. -/
def aB (X : Vec Ideal S8x128 .f32) (n : Fin 1024) : EReal := X (ix2 ⟨n.val / 128, by omega⟩ ⟨n.val % 128, by omega⟩)

/-- Row `n` of the block after the update. -/
def wB (n : Fin 1024) : Fin 4 → Fin 128 → EReal := Row.weight (gB x0 n) (cB x1 n) (aB x3 n) (aB x4 n) (aB x5 n)

/-- A block of one number per row, each repeated along its row. -/
def spreadB (X : Vec Ideal S8x128 .f32) : Vec Ideal S1024x128 .f32 := fun i => aB X (i 0)

/-- The numbers every row keeps besides its codes. -/
def keepB : Vec Ideal S1024x128 .f32 := fun i =>
  keep (gB x0 (i 0)) (cB x1 (i 0)) (aB x3 (i 0)) (aB x4 (i 0)) (aB x5 (i 0)) (i 1)

/-- Lane `p` of the rows' kept numbers, packed. -/
def packB (p : Fin 128) : Vec Ideal S8x128 .f32 := fun i =>
  keepB x0 x1 x3 x4 x5 (ix2 ⟨(i 0).val * 128 + (i 1).val, by have h0 := (i 0).isLt; have h1 := (i 1).isLt; simp at h0 h1; omega⟩ p)

/-- The block's new codes. -/
def codeB : Vec Ideal S1024x512 .i8 := fun i =>
  Row.code (wB x0 x1 x3 x4 x5 (i 0) ⟨(i 1).val / 128, by have h1 := (i 1).isLt; simp at h1; omega⟩ ⟨(i 1).val % 128, by omega⟩)
    (Row.least (wB x0 x1 x3 x4 x5 (i 0))) (Row.spread (wB x0 x1 x3 x4 x5 (i 0))) (x2 i)

/-! ### Where the trips read and write -/

theorem off1_eq : ∀ k, k0_off1 k = ![k.val, 0] := by decide +kernel
theorem off2_eq : ∀ k, k0_off2 k = ![128 * k.val, 0] := by decide +kernel
theorem off3_eq : ∀ k, k0_off3 k = ![0, 32 * k.val, 0] := by decide +kernel
theorem off4_eq : ∀ k, k0_off4 k = ![1, 32 * k.val, 0] := by decide +kernel
theorem off5_eq : ∀ k, k0_off5 k = ![2, 32 * k.val, 0] := by decide +kernel
theorem off6_eq : ∀ k, k0_off6 k = ![3, 32 * k.val, 0] := by decide +kernel
theorem off7_eq : ∀ k, k0_off7 k = ![32 * k.val, 0] := by decide +kernel
theorem off8_eq : ∀ k, k0_off8 k = ![32 * k.val, 0] := by decide +kernel
theorem off9_eq : ∀ k, k0_off9 k = ![32 * k.val, 128] := by decide +kernel
theorem off10_eq : ∀ k, k0_off10 k = ![32 * k.val, 256] := by decide +kernel
theorem off11_eq : ∀ k, k0_off11 k = ![32 * k.val, 384] := by decide +kernel
theorem off12_eq : ∀ k, k0_off12 k = ![128 * k.val, 0] := by decide +kernel
theorem off13_eq : ∀ k, k0_off13 k = ![k.val, 0] := by decide +kernel
theorem trips1 : k0_t1_loop.trips = 8 := by decide +kernel
theorem trips2 : k0_t2_loop.trips = 32 := by decide +kernel
theorem trips3 : k0_t3_loop.trips = 8 := by decide +kernel

theorem inb1 : ∀ k a, k0_off1 k a + (![1, 128] : Fin _ → ℕ) a ≤ S8x128.size a := by decide +kernel
theorem inb2 : ∀ k a, k0_off2 k a + (![128, 128] : Fin _ → ℕ) a ≤ S1024x128.size a := by decide +kernel
theorem inb3 : ∀ k a, k0_off3 k a + (S1x32x128.size : Fin _ → ℕ) a ≤ S4x1024x128.size a := by decide +kernel
theorem inb4 : ∀ k a, k0_off4 k a + (S1x32x128.size : Fin _ → ℕ) a ≤ S4x1024x128.size a := by decide +kernel
theorem inb5 : ∀ k a, k0_off5 k a + (S1x32x128.size : Fin _ → ℕ) a ≤ S4x1024x128.size a := by decide +kernel
theorem inb6 : ∀ k a, k0_off6 k a + (S1x32x128.size : Fin _ → ℕ) a ≤ S4x1024x128.size a := by decide +kernel
theorem inb7 : ∀ k a, k0_off7 k a + (S32x128.size : Fin _ → ℕ) a ≤ S1024x128.size a := by decide +kernel
theorem inb8 : ∀ k a, k0_off8 k a + (S32x128.size : Fin _ → ℕ) a ≤ S1024x512.size a := by decide +kernel
theorem inb9 : ∀ k a, k0_off9 k a + (S32x128.size : Fin _ → ℕ) a ≤ S1024x512.size a := by decide +kernel
theorem inb10 : ∀ k a, k0_off10 k a + (S32x128.size : Fin _ → ℕ) a ≤ S1024x512.size a := by decide +kernel
theorem inb11 : ∀ k a, k0_off11 k a + (S32x128.size : Fin _ → ℕ) a ≤ S1024x512.size a := by decide +kernel
theorem inb12 : ∀ k a, k0_off12 k a + (![128, 128] : Fin _ → ℕ) a ≤ S1024x128.size a := by decide +kernel
theorem inb13 : ∀ k a, k0_off13 k a + (![1, 128] : Fin _ → ℕ) a ≤ S8x128.size a := by decide +kernel

/-! ### The trips' pieces -/
section Trips
variable (𝒱 : Variants) (c : Dev nD) (bd : Option 𝒱.V) (i : grid0.Coords) (arg1 : Memref sig .tc .vmem S4x1024x128 .f32) (harg1 : arg1.IsWhole) (arg2 : Memref sig .tc .vmem S1024x128 .i32) (harg2 : arg2.IsWhole) (arg3 : Memref sig .tc .vmem S1024x512 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1024x512 .i8) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole)

theorem trip1_eq (X4 : BufTy.Contents (Elt Ideal) arg4.view.ty) (X5 : BufTy.Contents (Elt Ideal) arg5.view.ty) (X6 : BufTy.Contents (Elt Ideal) arg6.view.ty) (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X4 X5 X6 k
      = ([⟨(Rect.unit (s := S1024x128) (k0_off2 k) ![128, 128] (inb2 k)), k0_pay1 (View.readAt (Elt Ideal) arg4.view (Rect.unit (s := S8x128) (k0_off1 k) ![1, 128] (inb1 k)).toLoadRect X4)⟩], [⟨(Rect.unit (s := S1024x128) (k0_off2 k) ![128, 128] (inb2 k)), k0_pay2 (View.readAt (Elt Ideal) arg5.view (Rect.unit (s := S8x128) (k0_off1 k) ![1, 128] (inb1 k)).toLoadRect X5)⟩], [⟨(Rect.unit (s := S1024x128) (k0_off2 k) ![128, 128] (inb2 k)), k0_pay3 (View.readAt (Elt Ideal) arg6.view (Rect.unit (s := S8x128) (k0_off1 k) ![1, 128] (inb1 k)).toLoadRect X6)⟩]) := by
  unfold tripL_k0_t1 trip_k0_t1
  rfl

theorem trip2_eq (X1 : BufTy.Contents (Elt Ideal) arg1.view.ty) (X2 : BufTy.Contents (Elt Ideal) arg2.view.ty) (X3 : BufTy.Contents (Elt Ideal) arg3.view.ty) (X11 : BufTy.Contents (Elt Ideal) arg11.view.ty) (X12 : BufTy.Contents (Elt Ideal) arg12.view.ty) (X13 : BufTy.Contents (Elt Ideal) arg13.view.ty) (k : Fin k0_t2_loop.trips) :
    tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (iota .tc S32x128 32 [1] iota_S32x128_d1_w32) X1 X2 X3 X11 X12 X13 k
      = ([⟨(Rect.unit (s := S1024x512) (k0_off11 k) S32x128.size (inb11 k)), k0_pay28 (trW3 (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (trMn (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (k0_pay24 (trRe (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) k0_pay23) (View.readAt (Elt Ideal) arg3.view (Rect.unit (s := S1024x512) (k0_off11 k) S32x128.size (inb11 k)).toLoadRect X3)⟩, ⟨(Rect.unit (s := S1024x512) (k0_off10 k) S32x128.size (inb10 k)), k0_pay27 (trW2 (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (trMn (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (k0_pay24 (trRe (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) k0_pay23) (View.readAt (Elt Ideal) arg3.view (Rect.unit (s := S1024x512) (k0_off10 k) S32x128.size (inb10 k)).toLoadRect X3)⟩, ⟨(Rect.unit (s := S1024x512) (k0_off9 k) S32x128.size (inb9 k)), k0_pay26 (trW1 (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (trMn (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (trRe (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) k0_pay23 (View.readAt (Elt Ideal) arg3.view (Rect.unit (s := S1024x512) (k0_off9 k) S32x128.size (inb9 k)).toLoadRect X3)⟩, ⟨(Rect.unit (s := S1024x512) (k0_off8 k) S32x128.size (inb8 k)), k0_pay25 (trW0 (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (trMn (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (trRe (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) k0_pay23 (View.readAt (Elt Ideal) arg3.view (Rect.unit (s := S1024x512) (k0_off8 k) S32x128.size (inb8 k)).toLoadRect X3)⟩],
        [⟨(Rect.unit (s := S1024x128) (k0_off7 k) S32x128.size (inb7 k)), k0_pay4 (k0_pay13 (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg13.view (Rect.unit (s := S1024x128) (k0_off7 k) S32x128.size (inb7 k)).toLoadRect X13)) (trMn (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (k0_pay29 (iota .tc S32x128 32 [1] iota_S32x128_d1_w32)) (k0_pay30 (trRg (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2))) 1#32⟩]) := by
  unfold tripL_k0_t2 trip_k0_t2
  dsimp only
  unfold trip_k0_t2.sl.r_12 trip_k0_t2.sl.r_11 trip_k0_t2.sl.r_10 trip_k0_t2.sl.r_13 trip_k0_t2.sl.r_16 trip_k0_t2.sl.r_15 trip_k0_t2.sl.r_18
    trip_k0_t2.sl.r_17 trip_k0_t2.sl.r_14
  unfold trip_k0_t2.sl.r_9 trip_k0_t2.sl.r_4 trip_k0_t2.sl.r_5 trip_k0_t2.sl.r_6 trip_k0_t2.sl.r_7 trip_k0_t2.sl.r_8 trip_k0_t2.sl.r
    trip_k0_t2.sl.r_1 trip_k0_t2.sl.r_2 trip_k0_t2.sl.r_3
  rfl

theorem trip3_eq (X14 : BufTy.Contents (Elt Ideal) arg14.view.ty) (k : Fin k0_t3_loop.trips) :
    tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X14 k
      = ([⟨(Rect.unit (s := S8x128) (k0_off13 k) ![1, 128] (inb13 k)), k0_pay6 (View.readAt (Elt Ideal) arg14.view (Rect.unit (s := S1024x128) (k0_off12 k) ![128, 128] (inb12 k)).toLoadRect X14)⟩], [⟨(Rect.unit (s := S8x128) (k0_off13 k) ![1, 128] (inb13 k)), k0_pay7 (View.readAt (Elt Ideal) arg14.view (Rect.unit (s := S1024x128) (k0_off12 k) ![128, 128] (inb12 k)).toLoadRect X14)⟩], [⟨(Rect.unit (s := S8x128) (k0_off13 k) ![1, 128] (inb13 k)), k0_pay8 (View.readAt (Elt Ideal) arg14.view (Rect.unit (s := S1024x128) (k0_off12 k) ![128, 128] (inb12 k)).toLoadRect X14)⟩]) := by
  unfold tripL_k0_t3 trip_k0_t3
  rfl

end Trips

end Cert.KernelIdeal.Hand
-- ==== Proof.Agree.lean ====
module
public import proofs.«01_k».proof.Proof.Block
@[expose] public section
set_option maxRecDepth 16384
noncomputable section

/-!
The pieces agree with the block's contents and cover them.
-/
namespace Cert.KernelIdeal.Hand
open Cert.Pieces Cert.KernelIdeal Cert.KernelIdeal.Gen Idealize.ShloMosaic Idealize.ShloMosaic.TcCoe Idealize.SL.Sem

/-- A trip of the first loop spreads 128 of the numbers. -/
theorem agree1 {arg : Memref sig .tc .vmem S8x128 .f32} {X : BufTy.Contents (Elt Ideal) arg.view.ty} {x : Vec Ideal S8x128 .f32}
    (hX : arg.view.read (Elt Ideal) X = x) (pay : Vec Ideal S1x128 .f32 → FVec Ideal S128x128 .f32)
    (hpay : ∀ v r l, pay v (ix2 r l) = v (ix2 0 r)) (k : Fin k0_t1_loop.trips) (y : (Rect.unit (s := S1024x128) (k0_off2 k) ![128, 128] (inb2 k)).shape.Idx) :
    pay (View.readAt (Elt Ideal) arg.view (Rect.unit (s := S8x128) (k0_off1 k) ![1, 128] (inb1 k)).toLoadRect X) y = spreadB x ((Rect.unit (s := S1024x128) (k0_off2 k) ![128, 128] (inb2 k)).emb y) := by
  obtain ⟨r, l, rfl⟩ : ∃ (r : Fin 128) (l : Fin 128), y = ix2 r l := ⟨_, _, eq_ix2 y⟩
  rw [hpay]
  have he : ((Rect.unit (s := S1024x128) (k0_off2 k) ![128, 128] (inb2 k)).emb (ix2 r l) 0).val = 128 * k.val + r.val := by
    exact emb_val_of (s := S1024x128) (off2_eq k) _ _ 0
  have hk : k.val < 8 := trips1 ▸ k.isLt
  have hr := r.isLt
  refine readAt_of2 hX (off1_eq k) (inb1 k) (ix2 0 r) _ ?_ ?_
  · show k.val + 0 = ((Rect.unit (s := S1024x128) (k0_off2 k) ![128, 128] (inb2 k)).emb (ix2 r l) 0).val / 128
    omega
  · show 0 + r.val = ((Rect.unit (s := S1024x128) (k0_off2 k) ![128, 128] (inb2 k)).emb (ix2 r l) 0).val % 128
    omega

variable (x0 : Vec Ideal S4x1024x128 .f32) (x1 : Vec Ideal S1024x128 .i32) (x2 : Vec Ideal S1024x512 .i32) (x3 x4 x5 : Vec Ideal S8x128 .f32)

/-- A trip of the last loop packs one lane of 128 rows. -/
theorem agree3 {arg : Memref sig .tc .vmem S1024x128 .f32} {X : BufTy.Contents (Elt Ideal) arg.view.ty}
    (hX : arg.view.read (Elt Ideal) X = keepB x0 x1 x3 x4 x5) (p : Fin 128) (pay : Vec Ideal S128x128 .f32 → FVec Ideal S1x128 .f32)
    (hpay : ∀ v l, pay v (ix2 0 l) = v (ix2 l p)) (k : Fin k0_t3_loop.trips) (y : (Rect.unit (s := S8x128) (k0_off13 k) ![1, 128] (inb13 k)).shape.Idx) :
    pay (View.readAt (Elt Ideal) arg.view (Rect.unit (s := S1024x128) (k0_off12 k) ![128, 128] (inb12 k)).toLoadRect X) y = packB x0 x1 x3 x4 x5 p ((Rect.unit (s := S8x128) (k0_off13 k) ![1, 128] (inb13 k)).emb y) := by
  obtain ⟨r, l, rfl⟩ : ∃ (r : Fin 1) (l : Fin 128), y = ix2 r l := ⟨_, _, eq_ix2 y⟩
  obtain rfl : r = 0 := Subsingleton.elim _ _
  rw [hpay]
  have h0 : ((Rect.unit (s := S8x128) (k0_off13 k) ![1, 128] (inb13 k)).emb (ix2 (0 : Fin 1) l) 0).val = k.val := by
    exact (emb_val_of (s := S8x128) (off13_eq k) _ _ 0).trans (Nat.add_zero _)
  have h1 : ((Rect.unit (s := S8x128) (k0_off13 k) ![1, 128] (inb13 k)).emb (ix2 (0 : Fin 1) l) 1).val = l.val := by
    exact (emb_val_of (s := S8x128) (off13_eq k) _ _ 1).trans (Nat.zero_add _)
  refine readAt_of2 hX (off12_eq k) (inb12 k) (ix2 l p) _ ?_ ?_
  · show 128 * k.val + l.val = ((Rect.unit (s := S8x128) (k0_off13 k) ![1, 128] (inb13 k)).emb (ix2 (0 : Fin 1) l) 0).val * 128 + ((Rect.unit (s := S8x128) (k0_off13 k) ![1, 128] (inb13 k)).emb (ix2 (0 : Fin 1) l) 1).val
    omega
  · exact Nat.zero_add _

/-- The new code of row `n`, column `128 * j + l`. -/
theorem codeB_apply (n : Fin 1024) (j : Fin 4) (l : Fin 128) :
    codeB x0 x1 x2 x3 x4 x5 (ix2 n (Row.col j l))
      = Row.code (wB x0 x1 x3 x4 x5 n j l) (Row.least (wB x0 x1 x3 x4 x5 n)) (Row.spread (wB x0 x1 x3 x4 x5 n)) (x2 (ix2 n (Row.col j l))) := by
  have hl := l.isLt
  have hj : (⟨(Row.col j l).val / 128, by have := (Row.col j l).isLt; omega⟩ : Fin 4) = j :=
    Fin.ext (by show (j.val * 128 + l.val) / 128 = j.val; omega)
  have hx : (⟨(Row.col j l).val % 128, by omega⟩ : Fin 128) = l :=
    Fin.ext (by show (j.val * 128 + l.val) % 128 = l.val; omega)
  show Row.code (wB x0 x1 x3 x4 x5 n ⟨(Row.col j l).val / 128, _⟩ ⟨(Row.col j l).val % 128, _⟩) _ _ _ = _
  rw [hj, hx]
  rfl

section Trip2
variable {arg1 : Memref sig .tc .vmem S4x1024x128 .f32} {arg2 : Memref sig .tc .vmem S1024x128 .i32} {arg3 : Memref sig .tc .vmem S1024x512 .i32} {arg4 : Memref sig .tc .vmem S8x128 .f32} {arg5 : Memref sig .tc .vmem S8x128 .f32} {arg6 : Memref sig .tc .vmem S8x128 .f32} {arg7 : Memref sig .tc .vmem S1024x512 .i8} {arg8 : Memref sig .tc .vmem S8x128 .f32} {arg9 : Memref sig .tc .vmem S8x128 .f32} {arg10 : Memref sig .tc .vmem S8x128 .f32} {arg11 : Memref sig .tc .vmem S1024x128 .f32} {arg12 : Memref sig .tc .vmem S1024x128 .f32} {arg13 : Memref sig .tc .vmem S1024x128 .f32} {arg14 : Memref sig .tc .vmem S1024x128 .f32}
variable {X1 : BufTy.Contents (Elt Ideal) arg1.view.ty} {X2 : BufTy.Contents (Elt Ideal) arg2.view.ty} {X3 : BufTy.Contents (Elt Ideal) arg3.view.ty} {X11 : BufTy.Contents (Elt Ideal) arg11.view.ty} {X12 : BufTy.Contents (Elt Ideal) arg12.view.ty} {X13 : BufTy.Contents (Elt Ideal) arg13.view.ty}
variable {x0 x1 x2 x3 x4 x5}

/-- Row `r` of trip `k`. -/
def rowOf (k : Fin k0_t2_loop.trips) (r : Fin 32) : Fin 1024 :=
  ⟨32 * k.val + r.val, by have hk : k.val < 32 := lt_of_lt_of_eq k.isLt trips2; omega⟩

/-- A load of one gradient plane's rows. -/
theorem readAt_plane (hX1 : arg1.view.read (Elt Ideal) X1 = x0) {off : Fin 3 → ℕ} (j : Fin 4) (k : Fin k0_t2_loop.trips)
    (ho : off = ![j.val, 32 * k.val, 0]) (inb : ∀ a, off a + S1x32x128.size a ≤ S4x1024x128.size a) (r : Fin 32) (x : Fin 128) :
    View.readAt (Elt Ideal) arg1.view (Rect.unit (s := S4x1024x128) off S1x32x128.size inb).toLoadRect X1 (ix3 0 r x)
      = gB x0 (rowOf k r) j x := by
  subst ho
  refine (readAt_of hX1 _ _).trans (congrArg x0 (idx3_ext ?_ ?_ ?_))
  · show j.val + 1 * 0 = j.val
    omega
  · show 32 * k.val + 1 * r.val = 32 * k.val + r.val
    omega
  · show 0 + 1 * x.val = x.val
    omega

theorem rowIn (hX1 : arg1.view.read (Elt Ideal) X1 = x0) (hX2 : arg2.view.read (Elt Ideal) X2 = x1)
    (hX11 : arg11.view.read (Elt Ideal) X11 = spreadB x3) (hX12 : arg12.view.read (Elt Ideal) X12 = spreadB x4)
    (hX13 : arg13.view.read (Elt Ideal) X13 = spreadB x5) (k : Fin k0_t2_loop.trips) (r : Fin 32) :
    RowIn (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2) r (gB x0 (rowOf k r)) (cB x1 (rowOf k r)) (aB x3 (rowOf k r)) (aB x4 (rowOf k r)) (aB x5 (rowOf k r)) where
  h0 := readAt_plane hX1 0 k (off3_eq k) _ r
  h1 := readAt_plane hX1 1 k (off4_eq k) _ r
  h2 := readAt_plane hX1 2 k (off5_eq k) _ r
  h3 := readAt_plane hX1 3 k (off6_eq k) _ r
  h11 x := readAt_of2 hX11 (off7_eq k) (inb7 k) (ix2 r x) (ix2 (rowOf k r) x) rfl (Nat.zero_add _)
  h12 x := readAt_of2 hX12 (off7_eq k) (inb7 k) (ix2 r x) (ix2 (rowOf k r) x) rfl (Nat.zero_add _)
  h13 x := readAt_of2 hX13 (off7_eq k) (inb7 k) (ix2 r x) (ix2 (rowOf k r) x) rfl (Nat.zero_add _)
  hc x := readAt_of2 hX2 (off7_eq k) (inb7 k) (ix2 r x) (ix2 (rowOf k r) x) rfl (Nat.zero_add _)

/-- A trip's block of new codes of plane `j`, stored at column `128 * j`. -/
theorem agree_codes (hX3 : arg3.view.read (Elt Ideal) X3 = x2) (j : Fin 4) (k : Fin k0_t2_loop.trips) {off : Fin 2 → ℕ}
    (ho : off = ![32 * k.val, 128 * j.val]) (inb : ∀ a, off a + S32x128.size a ≤ S1024x512.size a) (pay : IVec S32x128 32 → IVec S32x128 8)
    (hpay : ∀ rn r l, pay rn (ix2 r l) = Row.code (wB x0 x1 x3 x4 x5 (rowOf k r) j l) (Row.least (wB x0 x1 x3 x4 x5 (rowOf k r)))
      (Row.spread (wB x0 x1 x3 x4 x5 (rowOf k r))) (rn (ix2 r l)))
    (y : (Rect.unit (s := S1024x512) off S32x128.size inb).shape.Idx) :
    pay (View.readAt (Elt Ideal) arg3.view (Rect.unit (s := S1024x512) off S32x128.size inb).toLoadRect X3) y
      = codeB x0 x1 x2 x3 x4 x5 ((Rect.unit (s := S1024x512) off S32x128.size inb).emb y) := by
  obtain ⟨r, l, rfl⟩ : ∃ (r : Fin 32) (l : Fin 128), y = ix2 r l := ⟨_, _, eq_ix2 y⟩
  have he : (Rect.unit (s := S1024x512) off S32x128.size inb).emb (ix2 r l) = ix2 (rowOf k r) (Row.col j l) := by
    subst ho
    refine idx2_ext ?_ ?_
    · exact emb_val _ _ 0
    · refine (emb_val _ _ 1).trans ?_
      show 128 * j.val + l.val = j.val * 128 + l.val
      omega
  rw [he, codeB_apply, hpay]
  refine congrArg _ ((readAt_of hX3 _ _).trans (congrArg x2 he))

/-- A trip's block of kept numbers. -/
theorem agree_keep (hX1 : arg1.view.read (Elt Ideal) X1 = x0) (hX2 : arg2.view.read (Elt Ideal) X2 = x1)
    (hX11 : arg11.view.read (Elt Ideal) X11 = spreadB x3) (hX12 : arg12.view.read (Elt Ideal) X12 = spreadB x4)
    (hX13 : arg13.view.read (Elt Ideal) X13 = spreadB x5) (k : Fin k0_t2_loop.trips) (y : (Rect.unit (s := S1024x128) (k0_off7 k) S32x128.size (inb7 k)).shape.Idx) :
    k0_pay4 (k0_pay13 (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg13.view (Rect.unit (s := S1024x128) (k0_off7 k) S32x128.size (inb7 k)).toLoadRect X13)) (trMn (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (k0_pay29 (iota .tc S32x128 32 [1] iota_S32x128_d1_w32)) (k0_pay30 (trRg (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2))) 1#32 y
      = keepB x0 x1 x3 x4 x5 ((Rect.unit (s := S1024x128) (k0_off7 k) S32x128.size (inb7 k)).emb y) := by
  obtain ⟨r, l, rfl⟩ : ∃ (r : Fin 32) (l : Fin 128), y = ix2 r l := ⟨_, _, eq_ix2 y⟩
  have he : (Rect.unit (s := S1024x128) (k0_off7 k) S32x128.size (inb7 k)).emb (ix2 r l) = ix2 (rowOf k r) l := by
    refine idx2_ext ?_ ?_
    · exact emb_val_of (s := S1024x128) (off7_eq k) _ _ 0
    · exact (emb_val_of (s := S1024x128) (off7_eq k) _ _ 1).trans (Nat.zero_add _)
  rw [he]
  exact (rowIn hX1 hX2 hX11 hX12 hX13 k r).keep_eq l

end Trip2
end Cert.KernelIdeal.Hand
-- ==== Proof.LoopVal.lean ====
module
public import proofs.«01_k».proof.Proof.Agree
@[expose] public section
set_option maxRecDepth 16384
noncomputable section

/-!
What the three loops leave in the buffers they store to.
-/
namespace Cert.KernelIdeal.Hand
open Cert.Pieces Cert.KernelIdeal Cert.KernelIdeal.Gen Idealize.ShloMosaic Idealize.ShloMosaic.TcCoe Idealize.SL.Sem

section Cover

theorem cover2 (y : S1024x128.Idx) : ∃ k, y ∈ (Rect.unit (s := S1024x128) (k0_off2 k) ![128, 128] (inb2 k)).set := by
  have h0 : (y 0).val < 1024 := (y 0).isLt
  have h1 : (y 1).val < 128 := (y 1).isLt
  refine ⟨⟨(y 0).val / 128, by rw [trips1]; omega⟩, Rect.mem_set_unit.mpr ?_⟩
  rw [off2_eq]
  exact Fin.forall_fin_two.mpr ⟨⟨by simp; omega, by simp; omega⟩, ⟨by simp, by simp; omega⟩⟩

theorem cover7 (y : S1024x128.Idx) : ∃ k, y ∈ (Rect.unit (s := S1024x128) (k0_off7 k) S32x128.size (inb7 k)).set := by
  have h0 : (y 0).val < 1024 := (y 0).isLt
  have h1 : (y 1).val < 128 := (y 1).isLt
  refine ⟨⟨(y 0).val / 32, by rw [trips2]; omega⟩, Rect.mem_set_unit.mpr ?_⟩
  rw [off7_eq]
  exact Fin.forall_fin_two.mpr ⟨⟨by simp; omega, by simp; omega⟩, ⟨by simp, by simp; omega⟩⟩

theorem cover13 (y : S8x128.Idx) : ∃ k, y ∈ (Rect.unit (s := S8x128) (k0_off13 k) ![1, 128] (inb13 k)).set := by
  have h0 : (y 0).val < 8 := (y 0).isLt
  have h1 : (y 1).val < 128 := (y 1).isLt
  refine ⟨⟨(y 0).val, by rw [trips3]; omega⟩, Rect.mem_set_unit.mpr ?_⟩
  rw [off13_eq]
  exact Fin.forall_fin_two.mpr ⟨⟨by simp, by simp⟩, ⟨by simp, by simp; omega⟩⟩

theorem cover_codes {j : ℕ} (y : S1024x512.Idx) {off : Fin k0_t2_loop.trips → Fin 2 → ℕ} (ho : ∀ k, off k = ![32 * k.val, j])
    (inb : ∀ k a, off k a + S32x128.size a ≤ S1024x512.size a) (hj : j ≤ (y 1).val ∧ (y 1).val < j + 128) :
    ∃ k, y ∈ (Rect.unit (s := S1024x512) (off k) S32x128.size (inb k)).set := by
  have h0 : (y 0).val < 1024 := (y 0).isLt
  refine ⟨⟨(y 0).val / 32, by rw [trips2]; omega⟩, Rect.mem_set_unit.mpr ?_⟩
  rw [ho]
  exact Fin.forall_fin_two.mpr ⟨⟨by simp; omega, by simp; omega⟩, ⟨by simp; omega, by simp; omega⟩⟩

end Cover

section Loops
variable (𝒱 : Variants) (c : Dev nD) (bd : Option 𝒱.V) (i : grid0.Coords) (arg1 : Memref sig .tc .vmem S4x1024x128 .f32) (harg1 : arg1.IsWhole) (arg2 : Memref sig .tc .vmem S1024x128 .i32) (harg2 : arg2.IsWhole) (arg3 : Memref sig .tc .vmem S1024x512 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1024x512 .i8) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole)
variable {x0 : Vec Ideal S4x1024x128 .f32} {x1 : Vec Ideal S1024x128 .i32} {x2 : Vec Ideal S1024x512 .i32} {x3 x4 x5 : Vec Ideal S8x128 .f32}

/-! ### The first loop -/
section One
variable {X4 : BufTy.Contents (Elt Ideal) arg4.view.ty} {X5 : BufTy.Contents (Elt Ideal) arg5.view.ty} {X6 : BufTy.Contents (Elt Ideal) arg6.view.ty}

theorem loop1_11 (hX : arg4.view.read (Elt Ideal) X4 = x3) (f : BufTy.Contents (Elt Ideal) arg11.view.ty) :
    arg11.view.read (Elt Ideal) (arg11.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X4 X5 X6 k0_t1_loop.trips).1) = spreadB x3 := by
  have hm := fun p => mem_trips (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X4 X5 X6 n).1)
    (fun k => [⟨(Rect.unit (s := S1024x128) (k0_off2 k) ![128, 128] (inb2 k)), k0_pay1 (View.readAt (Elt Ideal) arg4.view (Rect.unit (s := S8x128) (k0_off1 k) ![1, 128] (inb1 k)).toLoadRect X4)⟩]) rfl
    (fun k => by
      have h := congrArg (fun q => q.1) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X4 X5 X6 k)
      rw [trip1_eq] at h
      exact h) p
  simp only [List.mem_singleton] at hm
  refine read_writes_pieces _ f _ _ (fun p hp => ?_) (fun y => ?_)
  · obtain ⟨k, rfl⟩ := (hm p).mp hp
    exact agree1 hX _ pay1_apply k
  · obtain ⟨k, hk⟩ := cover2 y
    exact ⟨_, (hm _).mpr ⟨k, rfl⟩, hk⟩

theorem loop1_12 (hX : arg5.view.read (Elt Ideal) X5 = x4) (f : BufTy.Contents (Elt Ideal) arg12.view.ty) :
    arg12.view.read (Elt Ideal) (arg12.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X4 X5 X6 k0_t1_loop.trips).2.1) = spreadB x4 := by
  have hm := fun p => mem_trips (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X4 X5 X6 n).2.1)
    (fun k => [⟨(Rect.unit (s := S1024x128) (k0_off2 k) ![128, 128] (inb2 k)), k0_pay2 (View.readAt (Elt Ideal) arg5.view (Rect.unit (s := S8x128) (k0_off1 k) ![1, 128] (inb1 k)).toLoadRect X5)⟩]) rfl
    (fun k => by
      have h := congrArg (fun q => q.2.1) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X4 X5 X6 k)
      rw [trip1_eq] at h
      exact h) p
  simp only [List.mem_singleton] at hm
  refine read_writes_pieces _ f _ _ (fun p hp => ?_) (fun y => ?_)
  · obtain ⟨k, rfl⟩ := (hm p).mp hp
    exact agree1 hX _ pay2_apply k
  · obtain ⟨k, hk⟩ := cover2 y
    exact ⟨_, (hm _).mpr ⟨k, rfl⟩, hk⟩

theorem loop1_13 (hX : arg6.view.read (Elt Ideal) X6 = x5) (f : BufTy.Contents (Elt Ideal) arg13.view.ty) :
    arg13.view.read (Elt Ideal) (arg13.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X4 X5 X6 k0_t1_loop.trips).2.2) = spreadB x5 := by
  have hm := fun p => mem_trips (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X4 X5 X6 n).2.2)
    (fun k => [⟨(Rect.unit (s := S1024x128) (k0_off2 k) ![128, 128] (inb2 k)), k0_pay3 (View.readAt (Elt Ideal) arg6.view (Rect.unit (s := S8x128) (k0_off1 k) ![1, 128] (inb1 k)).toLoadRect X6)⟩]) rfl
    (fun k => by
      have h := congrArg (fun q => q.2.2) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X4 X5 X6 k)
      rw [trip1_eq] at h
      exact h) p
  simp only [List.mem_singleton] at hm
  refine read_writes_pieces _ f _ _ (fun p hp => ?_) (fun y => ?_)
  · obtain ⟨k, rfl⟩ := (hm p).mp hp
    exact agree1 hX _ pay3_apply k
  · obtain ⟨k, hk⟩ := cover2 y
    exact ⟨_, (hm _).mpr ⟨k, rfl⟩, hk⟩

end One

/-! ### The second loop -/
section Two
variable {X1 : BufTy.Contents (Elt Ideal) arg1.view.ty} {X2 : BufTy.Contents (Elt Ideal) arg2.view.ty} {X3 : BufTy.Contents (Elt Ideal) arg3.view.ty} {X11 : BufTy.Contents (Elt Ideal) arg11.view.ty} {X12 : BufTy.Contents (Elt Ideal) arg12.view.ty} {X13 : BufTy.Contents (Elt Ideal) arg13.view.ty}
variable (hX1 : arg1.view.read (Elt Ideal) X1 = x0) (hX2 : arg2.view.read (Elt Ideal) X2 = x1) (hX3 : arg3.view.read (Elt Ideal) X3 = x2)
  (hX11 : arg11.view.read (Elt Ideal) X11 = spreadB x3) (hX12 : arg12.view.read (Elt Ideal) X12 = spreadB x4)
  (hX13 : arg13.view.read (Elt Ideal) X13 = spreadB x5)
include hX1 hX2 hX11 hX12 hX13

theorem loop2_14 (f : BufTy.Contents (Elt Ideal) arg14.view.ty) :
    arg14.view.read (Elt Ideal) (arg14.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (iota .tc S32x128 32 [1] iota_S32x128_d1_w32) X1 X2 X3 X11 X12 X13 k0_t2_loop.trips).2) = keepB x0 x1 x3 x4 x5 := by
  have hm := fun p => mem_trips (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (iota .tc S32x128 32 [1] iota_S32x128_d1_w32) X1 X2 X3 X11 X12 X13 n).2)
    (fun k => [⟨(Rect.unit (s := S1024x128) (k0_off7 k) S32x128.size (inb7 k)), k0_pay4 (k0_pay13 (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg13.view (Rect.unit (s := S1024x128) (k0_off7 k) S32x128.size (inb7 k)).toLoadRect X13)) (trMn (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (k0_pay29 (iota .tc S32x128 32 [1] iota_S32x128_d1_w32)) (k0_pay30 (trRg (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2))) 1#32⟩]) rfl
    (fun k => by
      have h := congrArg (fun q => q.2) (pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (iota .tc S32x128 32 [1] iota_S32x128_d1_w32) X1 X2 X3 X11 X12 X13 k)
      rw [trip2_eq] at h
      exact h) p
  simp only [List.mem_singleton] at hm
  refine read_writes_pieces _ f _ _ (fun p hp => ?_) (fun y => ?_)
  · obtain ⟨k, rfl⟩ := (hm p).mp hp
    exact agree_keep hX1 hX2 hX11 hX12 hX13 k
  · obtain ⟨k, hk⟩ := cover7 y
    exact ⟨_, (hm _).mpr ⟨k, rfl⟩, hk⟩

include hX3 in
theorem loop2_7 (f : BufTy.Contents (Elt Ideal) arg7.view.ty) :
    arg7.view.read (Elt Ideal) (arg7.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (iota .tc S32x128 32 [1] iota_S32x128_d1_w32) X1 X2 X3 X11 X12 X13 k0_t2_loop.trips).1) = codeB x0 x1 x2 x3 x4 x5 := by
  have hm := fun p => mem_trips (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (iota .tc S32x128 32 [1] iota_S32x128_d1_w32) X1 X2 X3 X11 X12 X13 n).1)
    (fun k => [⟨(Rect.unit (s := S1024x512) (k0_off11 k) S32x128.size (inb11 k)), k0_pay28 (trW3 (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (trMn (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (k0_pay24 (trRe (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) k0_pay23) (View.readAt (Elt Ideal) arg3.view (Rect.unit (s := S1024x512) (k0_off11 k) S32x128.size (inb11 k)).toLoadRect X3)⟩, ⟨(Rect.unit (s := S1024x512) (k0_off10 k) S32x128.size (inb10 k)), k0_pay27 (trW2 (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (trMn (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (k0_pay24 (trRe (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) k0_pay23) (View.readAt (Elt Ideal) arg3.view (Rect.unit (s := S1024x512) (k0_off10 k) S32x128.size (inb10 k)).toLoadRect X3)⟩, ⟨(Rect.unit (s := S1024x512) (k0_off9 k) S32x128.size (inb9 k)), k0_pay26 (trW1 (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (trMn (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (trRe (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) k0_pay23 (View.readAt (Elt Ideal) arg3.view (Rect.unit (s := S1024x512) (k0_off9 k) S32x128.size (inb9 k)).toLoadRect X3)⟩, ⟨(Rect.unit (s := S1024x512) (k0_off8 k) S32x128.size (inb8 k)), k0_pay25 (trW0 (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (trMn (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) (trRe (View.readAt (Elt Ideal) arg1.view (Rect.unit (s := S4x1024x128) (k0_off3 k) S1x32x128.size (inb3 k)).toLoadRect X1) (View.readAt (Elt Ideal) arg1.view (Rect.unit (s := S4x1024x128) (k0_off4 k) S1x32x128.size (inb4 k)).toLoadRect X1) (View.readAt (Elt Ideal) arg1.view (Rect.unit (s := S4x1024x128) (k0_off5 k) S1x32x128.size (inb5 k)).toLoadRect X1) (View.readAt (Elt Ideal) arg1.view (Rect.unit (s := S4x1024x128) (k0_off6 k) S1x32x128.size (inb6 k)).toLoadRect X1) (View.readAt (Elt Ideal) arg11.view (Rect.unit (s := S1024x128) (k0_off7 k) S32x128.size (inb7 k)).toLoadRect X11) (View.readAt (Elt Ideal) arg12.view (Rect.unit (s := S1024x128) (k0_off7 k) S32x128.size (inb7 k)).toLoadRect X12) (View.readAt (Elt Ideal) arg13.view (Rect.unit (s := S1024x128) (k0_off7 k) S32x128.size (inb7 k)).toLoadRect X13) (View.readAt (Elt Ideal) arg2.view (Rect.unit (s := S1024x128) (k0_off7 k) S32x128.size (inb7 k)).toLoadRect X2)) k0_pay23 (View.readAt (Elt Ideal) arg3.view (Rect.unit (s := S1024x512) (k0_off8 k) S32x128.size (inb8 k)).toLoadRect X3)⟩]) rfl
    (fun k => by
      have h := congrArg (fun q => q.1) (pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (iota .tc S32x128 32 [1] iota_S32x128_d1_w32) X1 X2 X3 X11 X12 X13 k)
      rw [trip2_eq] at h
      exact h) p
  simp only [List.mem_cons, List.not_mem_nil, or_false] at hm
  refine read_writes_pieces _ f _ _ (fun p hp => ?_) (fun y => ?_)
  · obtain ⟨k, rfl | rfl | rfl | rfl⟩ := (hm p).mp hp
    · exact agree_codes hX3 3 k (off11_eq k) _ _ fun rn r l => (rowIn hX1 hX2 hX11 hX12 hX13 k r).code3 rn l
    · exact agree_codes hX3 2 k (off10_eq k) _ _ fun rn r l => (rowIn hX1 hX2 hX11 hX12 hX13 k r).code2 rn l
    · exact agree_codes hX3 1 k (off9_eq k) _ _ fun rn r l => (rowIn hX1 hX2 hX11 hX12 hX13 k r).code1 rn l
    · exact agree_codes hX3 0 k (off8_eq k) _ _ fun rn r l => (rowIn hX1 hX2 hX11 hX12 hX13 k r).code0 rn l
  · have h1 : (y 1).val < 512 := (y 1).isLt
    by_cases h128 : (y 1).val < 128
    · obtain ⟨k, hk⟩ := cover_codes y off8_eq inb8 ⟨by omega, by omega⟩
      exact ⟨_, (hm _).mpr ⟨k, .inr (.inr (.inr rfl))⟩, hk⟩
    by_cases h256 : (y 1).val < 256
    · obtain ⟨k, hk⟩ := cover_codes y off9_eq inb9 ⟨by omega, by omega⟩
      exact ⟨_, (hm _).mpr ⟨k, .inr (.inr (.inl rfl))⟩, hk⟩
    by_cases h384 : (y 1).val < 384
    · obtain ⟨k, hk⟩ := cover_codes y off10_eq inb10 ⟨by omega, by omega⟩
      exact ⟨_, (hm _).mpr ⟨k, .inr (.inl rfl)⟩, hk⟩
    · obtain ⟨k, hk⟩ := cover_codes y off11_eq inb11 ⟨by omega, by omega⟩
      exact ⟨_, (hm _).mpr ⟨k, .inl rfl⟩, hk⟩

end Two

/-! ### The third loop -/
section Three
variable {X14 : BufTy.Contents (Elt Ideal) arg14.view.ty} (hX : arg14.view.read (Elt Ideal) X14 = keepB x0 x1 x3 x4 x5)
include hX

theorem loop3_8 (f : BufTy.Contents (Elt Ideal) arg8.view.ty) :
    arg8.view.read (Elt Ideal) (arg8.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X14 k0_t3_loop.trips).1) = packB x0 x1 x3 x4 x5 0 := by
  have hm := fun p => mem_trips (fun n => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X14 n).1)
    (fun k => [⟨(Rect.unit (s := S8x128) (k0_off13 k) ![1, 128] (inb13 k)), k0_pay6 (View.readAt (Elt Ideal) arg14.view (Rect.unit (s := S1024x128) (k0_off12 k) ![128, 128] (inb12 k)).toLoadRect X14)⟩]) rfl
    (fun k => by
      have h := congrArg (fun q => q.1) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X14 k)
      rw [trip3_eq] at h
      exact h) p
  simp only [List.mem_singleton] at hm
  refine read_writes_pieces _ f _ _ (fun p hp => ?_) (fun y => ?_)
  · obtain ⟨k, rfl⟩ := (hm p).mp hp
    exact agree3 x0 x1 x3 x4 x5 hX 0 _ pay6_apply k
  · obtain ⟨k, hk⟩ := cover13 y
    exact ⟨_, (hm _).mpr ⟨k, rfl⟩, hk⟩

theorem loop3_9 (f : BufTy.Contents (Elt Ideal) arg9.view.ty) :
    arg9.view.read (Elt Ideal) (arg9.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X14 k0_t3_loop.trips).2.1) = packB x0 x1 x3 x4 x5 1 := by
  have hm := fun p => mem_trips (fun n => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X14 n).2.1)
    (fun k => [⟨(Rect.unit (s := S8x128) (k0_off13 k) ![1, 128] (inb13 k)), k0_pay7 (View.readAt (Elt Ideal) arg14.view (Rect.unit (s := S1024x128) (k0_off12 k) ![128, 128] (inb12 k)).toLoadRect X14)⟩]) rfl
    (fun k => by
      have h := congrArg (fun q => q.2.1) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X14 k)
      rw [trip3_eq] at h
      exact h) p
  simp only [List.mem_singleton] at hm
  refine read_writes_pieces _ f _ _ (fun p hp => ?_) (fun y => ?_)
  · obtain ⟨k, rfl⟩ := (hm p).mp hp
    exact agree3 x0 x1 x3 x4 x5 hX 1 _ pay7_apply k
  · obtain ⟨k, hk⟩ := cover13 y
    exact ⟨_, (hm _).mpr ⟨k, rfl⟩, hk⟩

theorem loop3_10 (f : BufTy.Contents (Elt Ideal) arg10.view.ty) :
    arg10.view.read (Elt Ideal) (arg10.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X14 k0_t3_loop.trips).2.2) = packB x0 x1 x3 x4 x5 2 := by
  have hm := fun p => mem_trips (fun n => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X14 n).2.2)
    (fun k => [⟨(Rect.unit (s := S8x128) (k0_off13 k) ![1, 128] (inb13 k)), k0_pay8 (View.readAt (Elt Ideal) arg14.view (Rect.unit (s := S1024x128) (k0_off12 k) ![128, 128] (inb12 k)).toLoadRect X14)⟩]) rfl
    (fun k => by
      have h := congrArg (fun q => q.2.2) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X14 k)
      rw [trip3_eq] at h
      exact h) p
  simp only [List.mem_singleton] at hm
  refine read_writes_pieces _ f _ _ (fun p hp => ?_) (fun y => ?_)
  · obtain ⟨k, rfl⟩ := (hm p).mp hp
    exact agree3 x0 x1 x3 x4 x5 hX 2 _ pay8_apply k
  · obtain ⟨k, hk⟩ := cover13 y
    exact ⟨_, (hm _).mpr ⟨k, rfl⟩, hk⟩

end Three
end Loops
end Cert.KernelIdeal.Hand
-- ==== Proof.RunBody.lean ====
module

public import proofs.«01_k».proof.Proof.LoopVal
@[expose] public section

set_option maxRecDepth 16384
noncomputable section

/-!
The body of one grid step: it leaves the new codes, scales, minima and states of its block of 1024 rows.
-/
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1600000 in
theorem run_body (c : Dev nD) (i : grid0.Coords) (arg1 : Memref sig .tc .vmem S4x1024x128 .f32) (harg1 : arg1.IsWhole) (arg2 : Memref sig .tc .vmem S1024x128 .i32) (harg2 : arg2.IsWhole) (arg3 : Memref sig .tc .vmem S1024x512 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1024x512 .i8) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole)
    (x0 : Vec Ideal S4x1024x128 .f32) (x1 : Vec Ideal S1024x128 .i32) (x2 : Vec Ideal S1024x512 .i32) (x3 : Vec Ideal S8x128 .f32) (x4 : Vec Ideal S8x128 .f32) (x5 : Vec Ideal S8x128 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (codeB x0 x1 x2 x3 x4 x5) ∗ owns (c : Thread nD τ) arg8 fullShare (packB x0 x1 x3 x4 x5 0) ∗ owns (c : Thread nD τ) arg9 fullShare (packB x0 x1 x3 x4 x5 1) ∗ owns (c : Thread nD τ) arg10 fullShare (packB x0 x1 x3 x4 x5 2) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := Ideal)) Variants.none c none) E (cc0_adagrad_requant i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_adagrad_requant_eq_skeleton]; unfold cc0_adagrad_requant_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec
  sl_step
  have hS0 := loop1_11 Variants.none c none i arg1 harg1 arg2 harg2 arg3 harg3 arg4 harg4 arg5 harg5 arg6 harg6 arg7 harg7 arg8 harg8 arg9 harg9 arg10 harg10 arg11 harg11 arg12 harg12 arg13 harg13 arg14 harg14 (X4 := harg4.unread x3) (X5 := harg5.unread x4) (X6 := harg6.unread x5) (harg4.read_unread x3) fs0
  have hS1 := loop1_12 Variants.none c none i arg1 harg1 arg2 harg2 arg3 harg3 arg4 harg4 arg5 harg5 arg6 harg6 arg7 harg7 arg8 harg8 arg9 harg9 arg10 harg10 arg11 harg11 arg12 harg12 arg13 harg13 arg14 harg14 (X4 := harg4.unread x3) (X5 := harg5.unread x4) (X6 := harg6.unread x5) (harg5.read_unread x4) fs1
  have hS2 := loop1_13 Variants.none c none i arg1 harg1 arg2 harg2 arg3 harg3 arg4 harg4 arg5 harg5 arg6 harg6 arg7 harg7 arg8 harg8 arg9 harg9 arg10 harg10 arg11 harg11 arg12 harg12 arg13 harg13 arg14 harg14 (X4 := harg4.unread x3) (X5 := harg5.unread x4) (X6 := harg6.unread x5) (harg6.read_unread x5) fs2
  have hS3 := loop2_14 Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.read_unread x0) (harg2.read_unread x1) (X3 := harg3.unread x2) hS0 hS1 hS2 fs3
  have h6 := loop2_7 Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.read_unread x0) (harg2.read_unread x1) (harg3.read_unread x2) hS0 hS1 hS2 f6
  have h7 := loop3_8 Variants.none c none i arg1 harg1 arg2 harg2 arg3 harg3 arg4 harg4 arg5 harg5 arg6 harg6 arg7 harg7 arg8 harg8 arg9 harg9 arg10 harg10 arg11 harg11 arg12 harg12 arg13 harg13 arg14 harg14 hS3 f7
  have h8 := loop3_9 Variants.none c none i arg1 harg1 arg2 harg2 arg3 harg3 arg4 harg4 arg5 harg5 arg6 harg6 arg7 harg7 arg8 harg8 arg9 harg9 arg10 harg10 arg11 harg11 arg12 harg12 arg13 harg13 arg14 harg14 hS3 f8
  have h9 := loop3_10 Variants.none c none i arg1 harg1 arg2 harg2 arg3 harg3 arg4 harg4 arg5 harg5 arg6 harg6 arg7 harg7 arg8 harg8 arg9 harg9 arg10 harg10 arg11 harg11 arg12 harg12 arg13 harg13 arg14 harg14 hS3 f9
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Hand
-- ==== Proof.Frames.lean ====
module
public import proofs.«01_k».proof.Proof.RunBody
public import Idealize.ShloMosaic.Lib.Claim
public import Idealize.ShloMosaic.Lib.Pipeline.Value
@[expose] public section
set_option maxRecDepth 16384
noncomputable section

/-!
The launch at the exact values: each grid step leaves its block's contents, so every run ends with the four result
arrays at what the write-backs make of those blocks, the arguments unchanged and the counters at zero.
-/
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the outputs' staging buffers hold after the body at point `t`: the new codes, scales, minima and states of its rows. -/
def outsAt0 (c : Dev nD) (t : Fin cfg0.N) : Vec Ideal S1024x512 .i8 × Vec Ideal S8x128 .f32 × Vec Ideal S8x128 .f32 × Vec Ideal S8x128 .f32 :=
  (codeB (iblk m c 0 t) (iblk m c 1 t) (iblk m c 2 t) (iblk m c 3 t) (iblk m c 4 t) (iblk m c 5 t), packB (iblk m c 0 t) (iblk m c 1 t) (iblk m c 3 t) (iblk m c 4 t) (iblk m c 5 t) 0, packB (iblk m c 0 t) (iblk m c 1 t) (iblk m c 3 t) (iblk m c 4 t) (iblk m c 5 t) 1, packB (iblk m c 0 t) (iblk m c 1 t) (iblk m c 3 t) (iblk m c 4 t) (iblk m c 5 t) 2)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t).1
    | ⟨7, _⟩ => (outsAt0 m c t).2.1
    | ⟨8, _⟩ => (outsAt0 m c t).2.2.1
    | ⟨9, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t).1 := by dsimp only [dats]
theorem after0_7 (c : Dev nD) (t : Fin cfg0.N) : (dats m 0 c).after 7 t = (outsAt0 m c t).2.1 := by dsimp only [dats]
theorem after0_8 (c : Dev nD) (t : Fin cfg0.N) : (dats m 0 c).after 8 t = (outsAt0 m c t).2.2.1 := by dsimp only [dats]
theorem after0_9 (c : Dev nD) (t : Fin cfg0.N) : (dats m 0 c).after 9 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  unfold outsAt0
  dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_body c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t).1) := by
  show (cfg0.win 6).cut (grid0.coords t) ((dats m 0 c).after 6 t) = _
  rw [after0_6]

/-- WHAT POINT `t` WRITES BACK to output window 7's array: the run's contents for that window after the body (`Gen.outsAt0`: its component 1), read through the window's block. -/
theorem flushed7 (c : Dev nD) (t : Fin cfg0.N) :
    (dats m 0 c).flushed 7 t = (cfg0.win 7).cut (grid0.coords t) ((outsAt0 m c t).2.1) := by
  show (cfg0.win 7).cut (grid0.coords t) ((dats m 0 c).after 7 t) = _
  rw [after0_7]

/-- WHAT POINT `t` WRITES BACK to output window 8's array: the run's contents for that window after the body (`Gen.outsAt0`: its component 2), read through the window's block. -/
theorem flushed8 (c : Dev nD) (t : Fin cfg0.N) :
    (dats m 0 c).flushed 8 t = (cfg0.win 8).cut (grid0.coords t) ((outsAt0 m c t).2.2.1) := by
  show (cfg0.win 8).cut (grid0.coords t) ((dats m 0 c).after 8 t) = _
  rw [after0_8]

/-- WHAT POINT `t` WRITES BACK to output window 9's array: the run's contents for that window after the body (`Gen.outsAt0`: its component 3), read through the window's block. -/
theorem flushed9 (c : Dev nD) (t : Fin cfg0.N) :
    (dats m 0 c).flushed 9 t = (cfg0.win 9).cut (grid0.coords t) ((outsAt0 m c t).2.2.2) := by
  show (cfg0.win 9).cut (grid0.coords t) ((dats m 0 c).after 9 t) = _
  rw [after0_9]

/-- After the frame run, output window 6's array is `(dats m 0 c).arrAt 6 N`. -/
theorem post6 (r : PUnit × MemSt nD τ sig (Elt Ideal)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt Ideal)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt Ideal)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt Ideal)) (h : Pipeline.FramePost cfgs (dats m) 0 (V m) r) (c : Dev nD) :
    r.2.mem ((c : Thread nD τ).loc main_v0_3) = (dats m 0 c).arrAt 9 cfg0.N :=
  (h c).1 9

/-- After the frame run, argument `main_arg0` is as launched: input window 0 stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := Ideal))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Hand
-- ==== Proof.RefDefs.lean ====
module

public import proofs.«01_k».proof.Proof.Gen.ReferenceIdeal.Run
public import Idealize.ShloMosaic.Lib.Pointwise
public import proofs.«01_k».proof.Proof.Row
@[expose] public section
set_option maxRecDepth 16384
noncomputable section

/-!
The results of the reference, read one entry at a time as functions of one row of its arguments.
-/
namespace Cert.ReferenceIdeal.Hand
open Cert.ReferenceIdeal Cert.ReferenceIdeal.Gen Idealize.ShloMosaic Idealize.ShloMosaic.TcCoe Idealize.SL.Sem
/-- The gradient rows: the four planes side by side. -/
def gC (X0 : FVec Ideal S4x153600x128 .f32) : FVec Ideal S153600x512 .f32 :=
  (concatenate S153600x512 1 [⟨S153600x128, ((shapeCast _ (extractStridedSlice S1x153600x128 ![0, 0, 0] X0 slices_S4x153600x128_S1x153600x128_0_0_0) shapeCasts_S1x153600x128_S153600x128) : (⟨S153600x128, .f32⟩ : BufTy).Contents (Elt Ideal))⟩, ⟨S153600x128, ((shapeCast _ (extractStridedSlice S1x153600x128 ![1, 0, 0] X0 slices_S4x153600x128_S1x153600x128_1_0_0) shapeCasts_S1x153600x128_S153600x128) : (⟨S153600x128, .f32⟩ : BufTy).Contents (Elt Ideal))⟩, ⟨S153600x128, ((shapeCast _ (extractStridedSlice S1x153600x128 ![2, 0, 0] X0 slices_S4x153600x128_S1x153600x128_2_0_0) shapeCasts_S1x153600x128_S153600x128) : (⟨S153600x128, .f32⟩ : BufTy).Contents (Elt Ideal))⟩, ⟨S153600x128, ((shapeCast _ (extractStridedSlice S1x153600x128 ![3, 0, 0] X0 slices_S4x153600x128_S1x153600x128_3_0_0) shapeCasts_S1x153600x128_S153600x128) : (⟨S153600x128, .f32⟩ : BufTy).Contents (Elt Ideal))⟩] concatenates_S153600x128_S153600x128_S153600x128_S153600x128_S153600x512_d1 : (⟨S153600x512, .f32⟩ : BufTy).Contents (Elt Ideal))

/-- The codes of a row: the four bytes of its words, unpacked side by side. -/
def cC (X1 : IVec S153600x128 32) : IVec S153600x512 32 :=
  (concatenate S153600x512 1 [⟨S153600x128, ((andi (Host.shrsi X1 (broadcastInDim S153600x128 ![] bcast_S_S153600x128 (constantI S_ 32 0#32))) (broadcastInDim S153600x128 ![] bcast_S_S153600x128 (constantI S_ 32 255#32))) : (⟨S153600x128, .i32⟩ : BufTy).Contents (Elt Ideal))⟩, ⟨S153600x128, ((andi (Host.shrsi X1 (broadcastInDim S153600x128 ![] bcast_S_S153600x128 (constantI S_ 32 8#32))) (broadcastInDim S153600x128 ![] bcast_S_S153600x128 (constantI S_ 32 255#32))) : (⟨S153600x128, .i32⟩ : BufTy).Contents (Elt Ideal))⟩, ⟨S153600x128, ((andi (Host.shrsi X1 (broadcastInDim S153600x128 ![] bcast_S_S153600x128 (constantI S_ 32 16#32))) (broadcastInDim S153600x128 ![] bcast_S_S153600x128 (constantI S_ 32 255#32))) : (⟨S153600x128, .i32⟩ : BufTy).Contents (Elt Ideal))⟩, ⟨S153600x128, ((andi (Host.shrsi X1 (broadcastInDim S153600x128 ![] bcast_S_S153600x128 (constantI S_ 32 24#32))) (broadcastInDim S153600x128 ![] bcast_S_S153600x128 (constantI S_ 32 255#32))) : (⟨S153600x128, .i32⟩ : BufTy).Contents (Elt Ideal))⟩] concatenates_S153600x128_S153600x128_S153600x128_S153600x128_S153600x512_d1 : (⟨S153600x512, .i32⟩ : BufTy).Contents (Elt Ideal))

/-- The new momentum state of every row. -/
def stC (X0 : FVec Ideal S4x153600x128 .f32) (X5 : FVec Ideal S1200x128 .f32) : FVec Ideal S153600 .f32 :=
  (addf (shapeCast _ X5 shapeCasts_S1200x128_S153600) (Host.divf (Host.reduceAdd (mulf (gC X0) (gC X0)) (constant S_ .f32 0x00000000#32) reducesTo_S153600x512_S153600_d1 h_S_) (broadcastInDim S153600 ![] bcast_S_S153600 (constant S_ .f32 0x44000000#32))))

/-- The updated, not yet quantised rows. -/
def wC (X0 : FVec Ideal S4x153600x128 .f32) (X1 : IVec S153600x128 32) (X3 : FVec Ideal S1200x128 .f32) (X4 : FVec Ideal S1200x128 .f32) (X5 : FVec Ideal S1200x128 .f32) : FVec Ideal S153600x512 .f32 :=
  (subf (addf (mulf (sitofp .f32 (cC X1)) (broadcastInDim S153600x512 ![0, 1] bcast_S153600x1_S153600x512_0_1 (broadcastInDim S153600x1 ![0] bcast_S153600_S153600x1_0 (shapeCast _ X3 shapeCasts_S1200x128_S153600)))) (broadcastInDim S153600x512 ![0, 1] bcast_S153600x1_S153600x512_0_1 (broadcastInDim S153600x1 ![0] bcast_S153600_S153600x1_0 (shapeCast _ X4 shapeCasts_S1200x128_S153600)))) (mulf (broadcastInDim S153600x512 ![0, 1] bcast_S153600x1_S153600x512_0_1 (broadcastInDim S153600x1 ![0] bcast_S153600_S153600x1_0 (Host.divf (broadcastInDim S153600 ![] bcast_S_S153600 (constant S_ .f32 0x3CA3D70A#32)) (addf (Host.sqrt (stC X0 X5)) (broadcastInDim S153600 ![] bcast_S_S153600 (constant S_ .f32 0x322BCC77#32)))))) (gC X0)))

/-- The smallest entry of every row. -/
def mnC (X0 : FVec Ideal S4x153600x128 .f32) (X1 : IVec S153600x128 32) (X3 : FVec Ideal S1200x128 .f32) (X4 : FVec Ideal S1200x128 .f32) (X5 : FVec Ideal S1200x128 .f32) : FVec Ideal S153600 .f32 :=
  (Host.reduce FloatOps.minimumf (wC X0 X1 X3 X4 X5) (constant S_ .f32 0x7F800000#32) reducesTo_S153600x512_S153600_d1 h_S_)

/-- The largest entry of every row. -/
def maxOf (w : FVec Ideal S153600x512 .f32) : FVec Ideal S153600 .f32 :=
  Host.reduce FloatOps.maximumf w (constant S_ .f32 0xFF800000#32) reducesTo_S153600x512_S153600_d1 h_S_

/-- The spread of the rows `w` whose smallest entries are `mn`. -/
def spreadOf (w : FVec Ideal S153600x512 .f32) (mn : FVec Ideal S153600 .f32) : FVec Ideal S153600 .f32 :=
  (subf (maxOf w) mn)

/-- The spread of every row. -/
def rngC (X0 : FVec Ideal S4x153600x128 .f32) (X1 : IVec S153600x128 32) (X3 : FVec Ideal S1200x128 .f32) (X4 : FVec Ideal S1200x128 .f32) (X5 : FVec Ideal S1200x128 .f32) : FVec Ideal S153600 .f32 :=
  spreadOf (wC X0 X1 X3 X4 X5) (mnC X0 X1 X3 X4 X5)

/-- The codes of the rows `w` whose smallest entries are `mn` and whose spreads are `rg`. -/
def codeOf (w : FVec Ideal S153600x512 .f32) (mn rg : FVec Ideal S153600 .f32) (X2 : IVec S153600x512 32) : IVec S153600x512 8 :=
  trunci 8 (fptosi 32 (minimumf (broadcastInDim S153600x512 ![] bcast_S_S153600x512 (id (constant S_ .f32 0x437F0000#32))) (maximumf (broadcastInDim S153600x512 ![] bcast_S_S153600x512 (id (constant S_ .f32 0x00000000#32))) (Host.floor (addf (mulf (subf w (broadcastInDim S153600x512 ![0, 1] bcast_S153600x1_S153600x512_0_1 (broadcastInDim S153600x1 ![0] bcast_S153600_S153600x1_0 mn))) (broadcastInDim S153600x512 ![0, 1] bcast_S153600x1_S153600x512_0_1 (broadcastInDim S153600x1 ![0] bcast_S153600_S153600x1_0 (Host.divf (broadcastInDim S153600 ![] bcast_S_S153600 (constant S_ .f32 0x437F0000#32)) (addf rg (broadcastInDim S153600 ![] bcast_S_S153600 (constant S_ .f32 0x322BCC77#32))))))) (mulf (uitofp .f32 (Host.shrui X2 (broadcastInDim S153600x512 ![] bcast_S_S153600x512 (constantI S_ 32 8#32)))) (broadcastInDim S153600x512 ![] bcast_S_S153600x512 (constant S_ .f32 0x33800000#32)))))))) natLt_8_32

/-- The new codes. -/
def codeC (X0 : FVec Ideal S4x153600x128 .f32) (X1 : IVec S153600x128 32) (X2 : IVec S153600x512 32) (X3 : FVec Ideal S1200x128 .f32) (X4 : FVec Ideal S1200x128 .f32) (X5 : FVec Ideal S1200x128 .f32) : IVec S153600x512 8 :=
  codeOf (wC X0 X1 X3 X4 X5) (mnC X0 X1 X3 X4 X5) (rngC X0 X1 X3 X4 X5) X2

/-- The new state, as it is returned. -/
def outSt (X0 : FVec Ideal S4x153600x128 .f32) (X5 : FVec Ideal S1200x128 .f32) : FVec Ideal S1200x128 .f32 :=
  shapeCast _ (stC X0 X5) shapeCasts_S153600_S1200x128

/-- The row minima, as they are returned. -/
def outMn (X0 : FVec Ideal S4x153600x128 .f32) (X1 : IVec S153600x128 32) (X3 : FVec Ideal S1200x128 .f32) (X4 : FVec Ideal S1200x128 .f32) (X5 : FVec Ideal S1200x128 .f32) : FVec Ideal S1200x128 .f32 :=
  shapeCast _ (mnC X0 X1 X3 X4 X5) shapeCasts_S153600_S1200x128

/-- The new scales, as they are returned. -/
def outSc (X0 : FVec Ideal S4x153600x128 .f32) (X1 : IVec S153600x128 32) (X3 : FVec Ideal S1200x128 .f32) (X4 : FVec Ideal S1200x128 .f32) (X5 : FVec Ideal S1200x128 .f32) : FVec Ideal S1200x128 .f32 :=
  shapeCast _ (Host.divf (rngC X0 X1 X3 X4 X5) (broadcastInDim S153600 ![] bcast_S_S153600 (constant S_ .f32 0x437F0000#32))) shapeCasts_S153600_S1200x128

section Terms
variable (m : (ℓ : Loc nD τ sig) → Buf (Elt Ideal) ℓ) (c : Dev nD)

theorem res_codes : Value.res_main_v72 (F := Ideal) m c = codeC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

theorem res_scale : Value.res_main_v75 (F := Ideal) m c = outSc (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := rfl

theorem res_min : Value.res_main_v76 (F := Ideal) m c = outMn (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := rfl

end Terms

variable (X0 : FVec Ideal S4x153600x128 .f32) (X1 : IVec S153600x128 32) (X2 : IVec S153600x512 32) (X3 X4 X5 : FVec Ideal S1200x128 .f32)

/-- Row `n` of the gradient, in planes. -/
def gRow (n : Fin 153600) (j : Fin 4) (x : Fin 128) : EReal := X0 (ix3 j n x)

/-- Row `n` of the packed codes. -/
def cRow (n : Fin 153600) (x : Fin 128) : BitVec 32 := X1 (ix2 n x)

/-- Entry `n` of an array of one number per row. -/
def at1 (X : FVec Ideal S1200x128 .f32) (n : Fin 153600) : EReal := X (ix2 ⟨n.val / 128, by omega⟩ ⟨n.val % 128, by omega⟩)

/-- Row `n` after the update, in planes. -/
def wRow (n : Fin 153600) : Fin 4 → Fin 128 → EReal :=
  Row.weight (gRow X0 n) (cRow X1 n) (at1 X3 n) (at1 X4 n) (at1 X5 n)

end Cert.ReferenceIdeal.Hand
-- ==== Proof.RefPure.lean ====
module

public import proofs.«01_k».proof.Proof.RefDefs
public import Idealize.ShloMosaic.Lib.Pointwise
@[expose] public section
set_option maxRecDepth 16384
noncomputable section

/-!
The results of the reference, read one entry at a time as functions of one row of its arguments.
-/
namespace Cert.ReferenceIdeal.Hand
open Cert.ReferenceIdeal Cert.ReferenceIdeal.Gen Idealize.ShloMosaic Idealize.ShloMosaic.TcCoe Idealize.SL.Sem

variable (X0 : FVec Ideal S4x153600x128 .f32) (X1 : IVec S153600x128 32) (X2 : IVec S153600x512 32) (X3 X4 X5 : FVec Ideal S1200x128 .f32)
theorem gC_read (n : Fin 153600) (k : Fin 512) : gC X0 (ix2 n k) =
    (if h : k.val < 128 then X0 (ix3 0 n ⟨k.val, h⟩)
    else if h : k.val - 128 < 128 then X0 (ix3 1 n ⟨k.val - 128, h⟩)
    else if h : k.val - 128 - 128 < 128 then X0 (ix3 2 n ⟨k.val - 128 - 128, h⟩)
    else X0 (ix3 3 n ⟨k.val - 128 - 128 - 128, by omega⟩)) := by
  pointwise [gC]

theorem gC_apply (n : Fin 153600) (j : Fin 4) (x : Fin 128) : gC X0 (ix2 n (Row.col j x)) = gRow X0 n j x :=
  (gC_read X0 n (Row.col j x)).trans (Row.pick (fun j x => X0 (ix3 j n x)) j x)

theorem cC_read (n : Fin 153600) (k : Fin 512) : cC X1 (ix2 n k) =
    (if h : k.val < 128 then IntOp.andi (IntOp.shrsi ArithUnit.host (X1 (ix2 n ⟨k.val, h⟩)) 0#32) 255#32
    else if h : k.val - 128 < 128 then IntOp.andi (IntOp.shrsi ArithUnit.host (X1 (ix2 n ⟨k.val - 128, h⟩)) 8#32) 255#32
    else if h : k.val - 128 - 128 < 128 then
      IntOp.andi (IntOp.shrsi ArithUnit.host (X1 (ix2 n ⟨k.val - 128 - 128, h⟩)) 16#32) 255#32
    else IntOp.andi (IntOp.shrsi ArithUnit.host (X1 (ix2 n ⟨k.val - 128 - 128 - 128, by omega⟩)) 24#32) 255#32) := by
  pointwise [cC]

theorem cC_apply (n : Fin 153600) (j : Fin 4) (x : Fin 128) : cC X1 (ix2 n (Row.col j x)) = Row.byte (cRow X1 n x) j :=
  ((cC_read X1 n (Row.col j x)).trans
    (Row.pick (fun j x => IntOp.andi (IntOp.shrsi ArithUnit.host (X1 (ix2 n x)) (BitVec.ofNat 32 (8 * j.val))) 255#32) j x)).trans
    (Row.byte_host _ j)

theorem stC_apply (n : Fin 153600) : stC X0 X5 (ix1 n) = Row.state (gRow X0 n) (at1 X5 n) := by
  pointwise [stC]
  rw [Row.mean_planes]
  simp only [gC_apply]
  rfl

theorem wC_apply (n : Fin 153600) (j : Fin 4) (x : Fin 128) :
    wC X0 X1 X3 X4 X5 (ix2 n (Row.col j x)) = wRow X0 X1 X3 X4 X5 n j x := by
  pointwise [wC]
  rw [gC_apply, cC_apply, stC_apply]
  rfl

theorem mnC_apply (n : Fin 153600) : mnC X0 X1 X3 X4 X5 (ix1 n) = Row.least (wRow X0 X1 X3 X4 X5 n) := by
  pointwise [mnC]
  rw [Row.fold_min_planes]
  simp only [wC_apply]
  rfl

theorem maxOf_apply (w : FVec Ideal S153600x512 .f32) (n : Fin 153600) :
    maxOf w (ix1 n) = Finset.fold max (Ideal.ofBits .f32 0xFF800000#32) (fun x => w (ix2 n x)) Finset.univ := by
  pointwise [maxOf]

theorem subf_read {s : Shape} (a b : FVec Ideal s .f32) (i : s.Idx) : subf a b i = a i - b i := rfl

theorem spreadOf_apply (w : FVec Ideal S153600x512 .f32) (mn : FVec Ideal S153600 .f32) (i : S153600.Idx) :
    spreadOf w mn i = maxOf w i - mn i := by
  rw [spreadOf]
  exact subf_read (maxOf w) mn i

theorem rngC_apply (n : Fin 153600) : rngC X0 X1 X3 X4 X5 (ix1 n) = Row.spread (wRow X0 X1 X3 X4 X5 n) := by
  rw [rngC, spreadOf_apply, maxOf_apply, Row.fold_max_planes, mnC_apply]
  simp only [wC_apply]
  rfl

theorem codeOf_apply (w : FVec Ideal S153600x512 .f32) (mn rg : FVec Ideal S153600 .f32) (n : Fin 153600) (k : Fin 512) :
    codeOf w mn rg X2 (ix2 n k) = Row.code (w (ix2 n k)) (mn (ix1 n)) (rg (ix1 n)) (X2 (ix2 n k)) := by
  simp only [codeOf, id]
  pointwise []
  rw [Row.rand_host]
  rfl

theorem codeC_apply (n : Fin 153600) (j : Fin 4) (x : Fin 128) :
    codeC X0 X1 X2 X3 X4 X5 (ix2 n (Row.col j x))
      = Row.code (wRow X0 X1 X3 X4 X5 n j x) (Row.least (wRow X0 X1 X3 X4 X5 n)) (Row.spread (wRow X0 X1 X3 X4 X5 n))
          (X2 (ix2 n (Row.col j x))) := by
  rw [codeC, codeOf_apply, wC_apply, mnC_apply, rngC_apply]

theorem outSt_apply (a : Fin 1200) (l : Fin 128) :
    outSt X0 X5 (ix2 a l)
      = Row.state (gRow X0 ⟨a.val * 128 + l.val, by omega⟩) (at1 X5 ⟨a.val * 128 + l.val, by omega⟩) := by
  pointwise [outSt]
  rw [stC_apply]

theorem outMn_apply (a : Fin 1200) (l : Fin 128) :
    outMn X0 X1 X3 X4 X5 (ix2 a l) = Row.least (wRow X0 X1 X3 X4 X5 ⟨a.val * 128 + l.val, by omega⟩) := by
  pointwise [outMn]
  rw [mnC_apply]

theorem outSc_apply (a : Fin 1200) (l : Fin 128) :
    outSc X0 X1 X3 X4 X5 (ix2 a l) = Row.scale (wRow X0 X1 X3 X4 X5 ⟨a.val * 128 + l.val, by omega⟩) := by
  pointwise [outSc]
  rw [rngC_apply]
  rfl

end Cert.ReferenceIdeal.Hand
-- ==== Proof.Final.lean ====
module
public import proofs.«01_k».proof.Proof.Frames
public import proofs.«01_k».proof.Proof.RefPure
public import Idealize.ShloMosaic.Lib.Pipeline.ValueKit
@[expose] public section
set_option maxRecDepth 16384
noncomputable section

/-!
The four result arrays after the run, as functions of the arguments: they are the reference's.
-/
namespace Cert.KernelIdeal.Hand
open Cert.KernelIdeal Cert.KernelIdeal.Gen Idealize.ShloMosaic Idealize.ShloMosaic.TcCoe Idealize.SL.Sem
open Idealize.ShloMosaic.Pipeline (Dat)
open Cert.ReferenceIdeal.Hand (gRow cRow at1 wRow codeC outSt outMn outSc codeC_apply outSt_apply outMn_apply outSc_apply)

variable (m : (ℓ : Loc nD τ sig) → Buf (Elt Ideal) ℓ)

/-- Where every window's block sits, at every grid step. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

theorem steps : cfg0.N = 150 := by decide +kernel

/-- Row `r` of step `t`'s block, among all rows. -/
def rowAt (t : Fin cfg0.N) (r : Fin 1024) : Fin 153600 :=
  ⟨t.val * 1024 + r.val, by have := lt_of_lt_of_eq t.isLt steps; omega⟩

/-- Line `a` of step `t`'s block of one number per row, among all lines. -/
def lineAt (t : Fin cfg0.N) (a : Fin 8) : Fin 1200 :=
  ⟨t.val * 8 + a.val, by have := lt_of_lt_of_eq t.isLt steps; omega⟩

/-- The arguments on core `c`. -/
abbrev A0 (c : Dev nD) : FVec Ideal S4x153600x128 .f32 := m ((c : Thread nD τ).loc main_arg0)
abbrev A1 (c : Dev nD) : IVec S153600x128 32 := m ((c : Thread nD τ).loc main_arg1)
abbrev A2 (c : Dev nD) : IVec S153600x512 32 := m ((c : Thread nD τ).loc main_arg2)
abbrev A3 (c : Dev nD) : FVec Ideal S1200x128 .f32 := m ((c : Thread nD τ).loc main_arg3)
abbrev A4 (c : Dev nD) : FVec Ideal S1200x128 .f32 := m ((c : Thread nD τ).loc main_arg4)
abbrev A5 (c : Dev nD) : FVec Ideal S1200x128 .f32 := m ((c : Thread nD τ).loc main_arg5)

variable (c : Dev nD) (t : Fin cfg0.N)

theorem gB_block (r : Fin 1024) : gB (iblk m c 0 t) r = gRow (A0 m c) (rowAt t r) := by
  funext j x
  unfold gB gRow A0 rowAt
  blk_ext [iblk, V, idx t]

theorem cB_block (r : Fin 1024) : cB (iblk m c 1 t) r = cRow (A1 m c) (rowAt t r) := by
  funext x
  unfold cB cRow A1 rowAt
  blk_ext [iblk, V, idx t]

theorem rnd_block (r : Fin 1024) (k : Fin 512) : (iblk m c 2 t) (ix2 r k) = A2 m c (ix2 (rowAt t r) k) := by
  unfold A2 rowAt
  blk_ext [iblk, V, idx t]

theorem split_row (r : Fin 1024) : (rowAt t r).val / 128 = t.val * 8 + r.val / 128 ∧ (rowAt t r).val % 128 = r.val % 128 := by
  unfold rowAt; dsimp only; omega

theorem aB3_block (r : Fin 1024) : aB (iblk m c 3 t) r = at1 (A3 m c) (rowAt t r) := by
  obtain ⟨h1, h2⟩ := split_row t r
  unfold aB at1 A3
  blk_ext [iblk, V, idx t]

theorem aB4_block (r : Fin 1024) : aB (iblk m c 4 t) r = at1 (A4 m c) (rowAt t r) := by
  obtain ⟨h1, h2⟩ := split_row t r
  unfold aB at1 A4
  blk_ext [iblk, V, idx t]

theorem aB5_block (r : Fin 1024) : aB (iblk m c 5 t) r = at1 (A5 m c) (rowAt t r) := by
  obtain ⟨h1, h2⟩ := split_row t r
  unfold aB at1 A5
  blk_ext [iblk, V, idx t]

theorem wB_block (r : Fin 1024) : wB (iblk m c 0 t) (iblk m c 1 t) (iblk m c 3 t) (iblk m c 4 t) (iblk m c 5 t) r
    = wRow (A0 m c) (A1 m c) (A3 m c) (A4 m c) (A5 m c) (rowAt t r) := by
  unfold wB wRow
  rw [gB_block, cB_block, aB3_block, aB4_block, aB5_block]

/-- The codes step `t` writes are the reference's at the array indices they are written to. -/
theorem point_codes (r : Fin 1024) (j : Fin 4) (l : Fin 128) :
    codeB (iblk m c 0 t) (iblk m c 1 t) (iblk m c 2 t) (iblk m c 3 t) (iblk m c 4 t) (iblk m c 5 t) (ix2 r (Row.col j l))
      = codeC (A0 m c) (A1 m c) (A2 m c) (A3 m c) (A4 m c) (A5 m c) (ix2 (rowAt t r) (Row.col j l)) := by
  refine (codeB_apply _ _ _ _ _ _ r j l).trans (Eq.trans ?_ (codeC_apply _ _ _ _ _ _ (rowAt t r) j l).symm)
  rw [wB_block, rnd_block]

/-- A line of a block, by its rows. -/
theorem line_row (a : Fin 8) (l : Fin 128) (h : a.val * 128 + l.val < 1024) (h' : (lineAt t a).val * 128 + l.val < 153600) :
    (⟨(lineAt t a).val * 128 + l.val, h'⟩ : Fin 153600) = rowAt t ⟨a.val * 128 + l.val, h⟩ := by
  apply Fin.ext; unfold lineAt rowAt; dsimp only; omega

theorem point_scale (a : Fin 8) (l : Fin 128) :
    packB (iblk m c 0 t) (iblk m c 1 t) (iblk m c 3 t) (iblk m c 4 t) (iblk m c 5 t) 0 (ix2 a l)
      = outSc (A0 m c) (A1 m c) (A3 m c) (A4 m c) (A5 m c) (ix2 (lineAt t a) l) := by
  refine Eq.trans ?_ (outSc_apply _ _ _ _ _ (lineAt t a) l).symm
  rw [line_row t a l (by omega)]
  refine keep_0.trans ?_
  rw [← wB_block]; rfl

theorem point_min (a : Fin 8) (l : Fin 128) :
    packB (iblk m c 0 t) (iblk m c 1 t) (iblk m c 3 t) (iblk m c 4 t) (iblk m c 5 t) 1 (ix2 a l)
      = outMn (A0 m c) (A1 m c) (A3 m c) (A4 m c) (A5 m c) (ix2 (lineAt t a) l) := by
  refine Eq.trans ?_ (outMn_apply _ _ _ _ _ (lineAt t a) l).symm
  rw [line_row t a l (by omega)]
  refine keep_1.trans ?_
  rw [← wB_block]; rfl

theorem point_state (a : Fin 8) (l : Fin 128) :
    packB (iblk m c 0 t) (iblk m c 1 t) (iblk m c 3 t) (iblk m c 4 t) (iblk m c 5 t) 2 (ix2 a l)
      = outSt (A0 m c) (A5 m c) (ix2 (lineAt t a) l) := by
  refine Eq.trans ?_ (outSt_apply _ _ (lineAt t a) l).symm
  rw [line_row t a l (by omega)]
  rw [← gB_block, ← aB5_block]
  exact keep_2 (g := gB (iblk m c 0 t) ⟨a.val * 128 + l.val, by omega⟩) (c := cB (iblk m c 1 t) ⟨a.val * 128 + l.val, by omega⟩) (sc := aB (iblk m c 3 t) ⟨a.val * 128 + l.val, by omega⟩) (bi := aB (iblk m c 4 t) ⟨a.val * 128 + l.val, by omega⟩) (mo := aB (iblk m c 5 t) ⟨a.val * 128 + l.val, by omega⟩)

/-- The first result array after the run: the reference's codes. -/
theorem final_codes : (dats m 0 c).arrAt 6 cfg0.N = codeC (A0 m c) (A1 m c) (A2 m c) (A3 m c) (A4 m c) (A5 m c) := by
  refine (dats m 0 c).arrAt_eq_of_covers 6 _ (by decide +kernel) fun t _ y => ?_
  blk_simp
  rw [after0_6]
  obtain ⟨r, k, rfl⟩ : ∃ (r : Fin 1024) (k : Fin 512), y = ix2 r k := ⟨y 0, y 1, eq_ix2 y⟩
  obtain ⟨j, l, rfl⟩ := Row.exists_col k
  refine (point_codes m c t r j l).trans ?_
  unfold rowAt
  blk_ext [idx t]

theorem final_scale : (dats m 0 c).arrAt 7 cfg0.N = outSc (A0 m c) (A1 m c) (A3 m c) (A4 m c) (A5 m c) := by
  refine (dats m 0 c).arrAt_eq_of_covers 7 _ (by decide +kernel) fun t _ y => ?_
  blk_simp
  rw [after0_7]
  obtain ⟨a, l, rfl⟩ : ∃ (a : Fin 8) (l : Fin 128), y = ix2 a l := ⟨y 0, y 1, eq_ix2 y⟩
  refine (point_scale m c t a l).trans (congrArg _ ?_)
  unfold lineAt
  blk_ext [idx t]

theorem final_min : (dats m 0 c).arrAt 8 cfg0.N = outMn (A0 m c) (A1 m c) (A3 m c) (A4 m c) (A5 m c) := by
  refine (dats m 0 c).arrAt_eq_of_covers 8 _ (by decide +kernel) fun t _ y => ?_
  blk_simp
  rw [after0_8]
  obtain ⟨a, l, rfl⟩ : ∃ (a : Fin 8) (l : Fin 128), y = ix2 a l := ⟨y 0, y 1, eq_ix2 y⟩
  refine (point_min m c t a l).trans (congrArg _ ?_)
  unfold lineAt
  blk_ext [idx t]

theorem final_state : (dats m 0 c).arrAt 9 cfg0.N = outSt (A0 m c) (A5 m c) := by
  refine (dats m 0 c).arrAt_eq_of_covers 9 _ (by decide +kernel) fun t _ y => ?_
  blk_simp
  rw [after0_9]
  obtain ⟨a, l, rfl⟩ : ∃ (a : Fin 8) (l : Fin 128), y = ix2 a l := ⟨y 0, y 1, eq_ix2 y⟩
  refine (point_state m c t a l).trans (congrArg _ ?_)
  unfold lineAt
  blk_ext [idx t]

end Cert.KernelIdeal.Hand
-- ==== Proof.Repack.lean ====
module
public import proofs.«01_k».proof.Proof.Gen.RepackIdeal.Value
public import proofs.«01_k».proof.Proof.Gen.RepackReferenceIdeal
public import proofs.«01_k».proof.Proof.Pieces
@[expose] public section
set_option maxRecDepth 16384
noncomputable section

/-!
The packing of a table of bytes, four to a word: what one grid step writes, and the packed table after the run.
-/
namespace Cert.RepackIdeal.Hand
open Cert.Pieces Cert.RepackIdeal Cert.RepackIdeal.Gen Idealize.ShloMosaic Idealize.ShloMosaic.TcCoe Idealize.SL.Sem
open Idealize.ShloMosaic.Pipeline (Dat)

/-! ### One word -/

/-- A word joined by `or` with one shifted past it is their sum. -/
theorem or_shift (x y : BitVec 32) (n : Nat) (hx : ∀ i, n ≤ i → x.getLsbD i = false) :
    x ||| y <<< n = x + y * BitVec.twoPow 32 n := by
  rw [BitVec.mul_twoPow_eq_shiftLeft]
  refine (BitVec.add_eq_or_of_and_eq_zero _ _ ?_).symm
  ext i hi
  simp only [BitVec.getElem_and, BitVec.getElem_zero, BitVec.getElem_shiftLeft]
  by_cases h : i < n
  · simp [h]
  · have := hx i (by omega)
    rw [BitVec.getLsbD_eq_getElem hi] at this
    simp [this]

/-- A shifted byte has no bits above it. -/
theorem high (y : BitVec 8) (n k : Nat) (h : n + 8 ≤ k) (i : Nat) (hi : k ≤ i) : ((y.setWidth 32) <<< n).getLsbD i = false := by
  rw [BitVec.getLsbD_shiftLeft, BitVec.getLsbD_setWidth, BitVec.getLsbD_of_ge y (i - n) (by omega)]
  simp

theorem high_or {x y : BitVec 32} {i : Nat} (hx : x.getLsbD i = false) (hy : y.getLsbD i = false) : (x ||| y).getLsbD i = false := by
  rw [BitVec.getLsbD_or, hx, hy]; rfl

/-- Four bytes as one number, the first the least. -/
def word (a b c d : BitVec 8) : BitVec 32 :=
  a.setWidth 32 + b.setWidth 32 * 256#32 + c.setWidth 32 * 65536#32 + d.setWidth 32 * 16777216#32

/-- The four bytes shifted into place and joined by `or` are that number: no two of them share a bit. -/
theorem or_word (a b c d : BitVec 8) :
    ((a.setWidth 32 <<< 0 ||| b.setWidth 32 <<< 8) ||| c.setWidth 32 <<< 16) ||| d.setWidth 32 <<< 24 = word a b c d := by
  have h8 : ∀ i, 8 ≤ i → (a.setWidth 32 <<< 0 : BitVec 32).getLsbD i = false := high a 0 8 (by omega)
  have h16 : ∀ i, 16 ≤ i → (a.setWidth 32 <<< 0 ||| b.setWidth 32 <<< 8 : BitVec 32).getLsbD i = false := fun i hi =>
    high_or (h8 i (by omega)) (high b 8 16 (by omega) i hi)
  have h24 : ∀ i, 24 ≤ i → ((a.setWidth 32 <<< 0 ||| b.setWidth 32 <<< 8) ||| c.setWidth 32 <<< 16 : BitVec 32).getLsbD i = false := fun i hi =>
    high_or (h16 i (by omega)) (high c 16 24 (by omega) i hi)
  rw [or_shift _ _ 24 h24, or_shift _ _ 16 h16, or_shift _ _ 8 h8, BitVec.shiftLeft_zero]
  have t8 : BitVec.twoPow 32 8 = 256#32 := by decide
  have t16 : BitVec.twoPow 32 16 = 65536#32 := by decide
  have t24 : BitVec.twoPow 32 24 = 16777216#32 := by decide
  rw [t8, t16, t24]
  rfl

/-- What the body stores of four groups of bytes. -/
theorem pay_apply (v0 v1 v2 v3 : Vec Ideal S32x128 .i8) (i : S32x128.Idx) :
    k0_pay2 (F := Ideal) v0 v1 v2 v3 i = word (v0 i) (v1 i) (v2 i) (v3 i) := by
  rw [← or_word]
  rfl

/-! ### One grid step -/

/-- Byte `j` of word `x` of row `n`. -/
def byteAt {n : ℕ} (X : (⟨2, ![n, 512]⟩ : Shape).Idx → BitVec 8) (j : Fin 4) (r : Fin n) (x : Fin 128) : BitVec 8 :=
  X (ix2 r ⟨128 * j.val + x.val, by omega⟩)

/-- A table of rows of 512 bytes, packed. -/
def packed {n : ℕ} (X : (⟨2, ![n, 512]⟩ : Shape).Idx → BitVec 8) : (⟨2, ![n, 128]⟩ : Shape).Idx → BitVec 32 := fun i =>
  word (byteAt X 0 (i 0) (i 1)) (byteAt X 1 (i 0) (i 1)) (byteAt X 2 (i 0) (i 1)) (byteAt X 3 (i 0) (i 1))

theorem trips : k0_t1_loop.trips = 35 := by decide +kernel
theorem off1_eq : ∀ k (r : Fin 5), k0_off1 k (BitVec.ofNat 32 r.val) = ![160 * k.val + 32 * r.val, 0] := by decide +kernel
theorem off2_eq : ∀ k (r : Fin 5), k0_off2 k (BitVec.ofNat 32 r.val) = ![160 * k.val + 32 * r.val, 128] := by decide +kernel
theorem off3_eq : ∀ k (r : Fin 5), k0_off3 k (BitVec.ofNat 32 r.val) = ![160 * k.val + 32 * r.val, 256] := by decide +kernel
theorem off4_eq : ∀ k (r : Fin 5), k0_off4 k (BitVec.ofNat 32 r.val) = ![160 * k.val + 32 * r.val, 384] := by decide +kernel
theorem off5_eq : ∀ k (r : Fin 5), k0_off5 k (BitVec.ofNat 32 r.val) = ![160 * k.val + 32 * r.val, 0] := by decide +kernel

section Trips
variable (𝒱 : Variants) (c : Dev nD) (bd : Option 𝒱.V) (i : grid0.Coords) (arg1 : Memref sig .tc .vmem S5600x512 .i8) (harg1 : arg1.IsWhole)
  (arg2 : Memref sig .tc .vmem S5600x128 .i32) (harg2 : arg2.IsWhole) (X : BufTy.Contents (Elt Ideal) arg1.view.ty)

/-- The `r`-th store of trip `k`: 32 rows of words, from four loads. -/
def tile (k : Fin k0_t1_loop.trips) (r : Fin 5) : View.Piece (Elt Ideal) S5600x128 .i32 :=
  ⟨Rect.unit (s := S5600x128) (k0_off5 k (BitVec.ofNat 32 r.val)) S32x128.size (k0_off5_inb k r),
    k0_pay2 (F := Ideal)
      (View.readAt (Elt Ideal) arg1.view (Rect.unit (s := S5600x512) (k0_off1 k (BitVec.ofNat 32 r.val)) S32x128.size (k0_off1_inb k r)).toLoadRect X)
      (View.readAt (Elt Ideal) arg1.view (Rect.unit (s := S5600x512) (k0_off2 k (BitVec.ofNat 32 r.val)) S32x128.size (k0_off2_inb k r)).toLoadRect X)
      (View.readAt (Elt Ideal) arg1.view (Rect.unit (s := S5600x512) (k0_off3 k (BitVec.ofNat 32 r.val)) S32x128.size (k0_off3_inb k r)).toLoadRect X)
      (View.readAt (Elt Ideal) arg1.view (Rect.unit (s := S5600x512) (k0_off4 k (BitVec.ofNat 32 r.val)) S32x128.size (k0_off4_inb k r)).toLoadRect X)⟩

/-- A trip's stores, last first. -/
theorem trip_eq (k : Fin k0_t1_loop.trips) :
    tripL_k0_t1 (F := Ideal) 𝒱 c bd i arg1 harg1 arg2 harg2 X k
      = [tile arg1 X k 4, tile arg1 X k 3, tile arg1 X k 2, tile arg1 X k 1, tile arg1 X k 0] := by
  unfold tripL_k0_t1 trip_k0_t1
  rfl

/-- Every store agrees with the packed block. -/
theorem tile_agree {x0 : Vec Ideal S5600x512 .i8} (hX : arg1.view.read (Elt Ideal) X = x0) (k : Fin k0_t1_loop.trips) (r : Fin 5)
    (x : S32x128.Idx) : (tile arg1 X k r).2 x = packed x0 ((tile arg1 X k r).1.emb x) := by
  have h0 : ((tile arg1 X k r).1.emb x 0).val = 160 * k.val + 32 * r.val + (x 0).val :=
    emb_val_of (s := S5600x128) (off5_eq k r) (k0_off5_inb k r) x 0
  have h1 : ((tile arg1 X k r).1.emb x 1).val = (x 1).val :=
    (emb_val_of (s := S5600x128) (off5_eq k r) (k0_off5_inb k r) x 1).trans (Nat.zero_add _)
  generalize (tile arg1 X k r).1.emb x = y at h0 h1
  refine (pay_apply _ _ _ _ x).trans ?_
  unfold packed byteAt
  congr 1
  · exact readAt_of2 hX (off1_eq k r) (k0_off1_inb k r) x _ h0.symm (congrArg (0 + ·) h1.symm)
  · exact readAt_of2 hX (off2_eq k r) (k0_off2_inb k r) x _ h0.symm (congrArg (128 + ·) h1.symm)
  · exact readAt_of2 hX (off3_eq k r) (k0_off3_inb k r) x _ h0.symm (congrArg (256 + ·) h1.symm)
  · exact readAt_of2 hX (off4_eq k r) (k0_off4_inb k r) x _ h0.symm (congrArg (384 + ·) h1.symm)

/-- The stores of all trips cover the block. -/
theorem tile_cover (y : S5600x128.Idx) : ∃ k r, y ∈ (tile arg1 X k r).1.set := by
  have h0 : (y 0).val < 5600 := (y 0).isLt
  have h1 : (y 1).val < 128 := (y 1).isLt
  have key : ∀ k (r : Fin 5), k.val = (y 0).val / 160 → r.val = (y 0).val % 160 / 32 → y ∈ (tile arg1 X k r).1.set := by
    intro k r hk hr
    refine (Rect.mem_set_unit (inb := k0_off5_inb k r)).mpr ?_
    rw [off5_eq]
    exact Fin.forall_fin_two.mpr ⟨⟨by simp; omega, by simp; omega⟩, ⟨by simp, by simp; omega⟩⟩
  exact ⟨⟨(y 0).val / 160, by rw [trips]; omega⟩, ⟨(y 0).val % 160 / 32, by omega⟩, key _ _ rfl rfl⟩

/-- A list of the five stores of a trip has those stores for members. -/
theorem mem_tiles (k : Fin k0_t1_loop.trips) (p : View.Piece (Elt Ideal) S5600x128 .i32) :
    p ∈ [tile arg1 X k 4, tile arg1 X k 3, tile arg1 X k 2, tile arg1 X k 1, tile arg1 X k 0] ↔ ∃ r, p = tile arg1 X k r := by
  constructor
  · intro h
    simp only [List.mem_cons, List.not_mem_nil, or_false] at h
    rcases h with h | h | h | h | h
    exacts [⟨_, h⟩, ⟨_, h⟩, ⟨_, h⟩, ⟨_, h⟩, ⟨_, h⟩]
  · rintro ⟨r, rfl⟩
    fin_cases r <;> simp

/-- What the loop leaves in the block. -/
theorem loop_val {x0 : Vec Ideal S5600x512 .i8} (hX : arg1.view.read (Elt Ideal) X = x0) {sp : Space} (v : View sig .tc sp S5600x128 .i32)
    (f : v.ty.Contents (Elt Ideal)) :
    v.read (Elt Ideal) (v.writes (Elt Ideal) f (pb_k0_t1 (F := Ideal) 𝒱 c bd i arg1 harg1 arg2 harg2 X k0_t1_loop.trips)) = packed x0 := by
  have hm := fun p => mem_trips (pb_k0_t1 (F := Ideal) 𝒱 c bd i arg1 harg1 arg2 harg2 X)
    (fun k => [tile arg1 X k 4, tile arg1 X k 3, tile arg1 X k 2, tile arg1 X k 1, tile arg1 X k 0]) rfl
    (fun k => (pb_k0_t1_succ (F := Ideal) 𝒱 c bd i arg1 harg1 arg2 harg2 X k).trans (by rw [trip_eq])) p
  simp only [mem_tiles] at hm
  refine read_writes_pieces v f _ _ (fun p hp => ?_) (fun y => ?_)
  · obtain ⟨k, r, rfl⟩ := (hm p).mp hp
    exact tile_agree arg1 X hX k r
  · obtain ⟨k, r, h⟩ := tile_cover arg1 X y
    exact ⟨_, (hm _).mpr ⟨k, r, rfl⟩, h⟩

/-- What a run of the body leaves in its output. -/
theorem out_eq (x0 : Vec Ideal S5600x512 .i8) : out0_A_1 (F := Ideal) c i arg1 harg1 arg2 harg2 x0 = packed x0 := by
  unfold out0_A_1 kernelRun0_A
  exact loop_val Variants.none c none i arg1 harg1 arg2 harg2 (harg1.unread x0) (harg1.read_unread _) _ _

end Trips

/-! ### The packed table -/

variable (m : (ℓ : Loc nD τ sig) → Buf (Elt Ideal) ℓ) (c : Dev nD)

/-- The argument on core `c`. -/
abbrev A0 : S700000x512.Idx → BitVec 8 := m ((c : Thread nD τ).loc main_arg0)

theorem idx : ∀ t : Fin cfg0.N, win0_0.index t = ![t.val, 0] ∧ win0_1.index t = ![t.val, 0] :=
  (by decide +kernel : ∀ t : Fin grid0.N, _)

theorem steps : cfg0.N = 125 := by decide +kernel

/-- Row `r` of step `t`'s block, among all rows. -/
def rowAt (t : Fin cfg0.N) (r : Fin 5600) : Fin 700000 :=
  ⟨t.val * 5600 + r.val, by have := lt_of_lt_of_eq t.isLt steps; omega⟩

theorem byte_block (t : Fin cfg0.N) (j : Fin 4) (r : Fin 5600) (x : Fin 128) :
    byteAt (n := 5600) (iblk m c 0 t) j r x = byteAt (A0 m c) j (rowAt t r) x := by
  unfold byteAt A0 rowAt
  blk_ext [iblk, V, idx t]

/-- The result array after the run: the table, packed. -/
theorem final : (dats m 0 c).arrAt 1 cfg0.N = packed (A0 m c) := by
  refine (dats m 0 c).arrAt_eq_of_covers 1 _ (by decide +kernel) fun t _ y => ?_
  blk_simp
  rw [after0_1]
  obtain ⟨r, l, rfl⟩ : ∃ (r : Fin 5600) (l : Fin 128), y = ix2 r l := ⟨y 0, y 1, eq_ix2 y⟩
  have e : outsAt0 m c t (ix2 r l) = packed (A0 m c) (ix2 (rowAt t r) l) := by
    unfold outsAt0
    rw [out_eq]
    unfold packed
    exact (by simp only [byte_block] : word (byteAt (n := 5600) (iblk m c 0 t) 0 r l) (byteAt (n := 5600) (iblk m c 0 t) 1 r l)
        (byteAt (n := 5600) (iblk m c 0 t) 2 r l) (byteAt (n := 5600) (iblk m c 0 t) 3 r l)
      = word (byteAt (A0 m c) 0 (rowAt t r) l) (byteAt (A0 m c) 1 (rowAt t r) l) (byteAt (A0 m c) 2 (rowAt t r) l) (byteAt (A0 m c) 3 (rowAt t r) l))
  refine e.trans (congrArg _ ?_)
  unfold rowAt
  blk_ext [idx t]

end Cert.RepackIdeal.Hand

namespace Cert.RepackReferenceIdeal.Hand
open Cert.Pieces Cert.RepackReferenceIdeal Cert.RepackReferenceIdeal.Gen Idealize.ShloMosaic Idealize.ShloMosaic.TcCoe Idealize.SL.Sem
open Cert.RepackIdeal.Hand (word byteAt packed)

/-- A slice of 128 columns, read at an index. -/
theorem slice_apply {o : ℕ} (X : IVec S700000x512 8) (h : S700000x512.Slices ![0, o] S700000x128) (i : S700000x128.Idx) (j : Fin 4)
    (ho : o = 128 * j.val) : extractStridedSlice S700000x128 ![0, o] X h i = byteAt (n := 700000) X j (i 0) (i 1) :=
  congrArg X (idx2_ext (n0 := 700000) (n1 := 512) (Nat.zero_add _) (by subst ho; rfl))

/-- The reference's result is the table, packed. -/
theorem ref_packed (X : IVec S700000x512 8) :
    addi (addi (addi (extui 32 (extractStridedSlice S700000x128 ![0, 0] X slices_S700000x512_S700000x128_0_0) natLt_8_32)
        (muli (extui 32 (extractStridedSlice S700000x128 ![0, 128] X slices_S700000x512_S700000x128_0_128) natLt_8_32)
          (broadcastInDim S700000x128 ![] bcast_S_S700000x128 (constantI S_ 32 256#32))))
        (muli (extui 32 (extractStridedSlice S700000x128 ![0, 256] X slices_S700000x512_S700000x128_0_256) natLt_8_32)
          (broadcastInDim S700000x128 ![] bcast_S_S700000x128 (constantI S_ 32 65536#32))))
        (muli (extui 32 (extractStridedSlice S700000x128 ![0, 384] X slices_S700000x512_S700000x128_0_384) natLt_8_32)
          (broadcastInDim S700000x128 ![] bcast_S_S700000x128 (constantI S_ 32 16777216#32)))
      = packed (n := 700000) X := by
  funext i
  unfold packed
  rw [← slice_apply X slices_S700000x512_S700000x128_0_0 i 0 rfl, ← slice_apply X slices_S700000x512_S700000x128_0_128 i 1 rfl,
    ← slice_apply X slices_S700000x512_S700000x128_0_256 i 2 rfl, ← slice_apply X slices_S700000x512_S700000x128_0_384 i 3 rfl]
  rfl

end Cert.RepackReferenceIdeal.Hand
-- ==== Proof.lean ====
module

public import proofs.«01_k».proof.Defs
public import proofs.«01_k».proof.Proof.Gen.Kernel
public import proofs.«01_k».proof.Proof.FrameKernel
public import proofs.«01_k».proof.Proof.Gen.KernelIdeal
public import proofs.«01_k».proof.Proof.Gen.ReferenceIdeal
public import proofs.«01_k».proof.Proof.Gen.ReferenceIdeal.Run
public import proofs.«01_k».proof.Proof.Final
public import proofs.«01_k».proof.Proof.Gen.Repack
public import proofs.«01_k».proof.Proof.Gen.Repack.Frame
public import proofs.«01_k».proof.Proof.Gen.RepackIdeal
public import proofs.«01_k».proof.Proof.Gen.RepackIdeal.Frame
public import proofs.«01_k».proof.Proof.Gen.RepackIdeal.Value
public import proofs.«01_k».proof.Proof.Gen.RepackReferenceIdeal
public import proofs.«01_k».proof.Proof.Gen.RepackReferenceIdeal.Run
public import proofs.«01_k».proof.Proof.Repack
public import Idealize.ShloMosaic.Adequacy
public import Idealize.ShloMosaic.Init

@[expose] public section

set_option maxRecDepth 16384

noncomputable section

/-!
The claims, of the update call and of the packing call: the programs run to the end from any memory, leave their arguments
unchanged and every counter at zero, and at the exact values the kernel's results are the reference's.
-/
namespace Cert.Proof

open Idealize.ShloMosaic Idealize.ShloMosaic.TcCoe Idealize.SL.Sem

theorem frame_kernel : Cert.quiescent_Kernel := fun m g _ => Cert.Kernel.Hand.frame m g

theorem frame_ideal : Cert.quiescent_KernelIdeal := fun m g _ => Cert.KernelIdeal.Hand.frame m g

theorem frame_reference : Cert.quiescent_ReferenceIdeal := by
  intro m g _
  exact (θ_run Cert.ReferenceIdeal.defs _ _).mono (fun r h => ⟨fun c => (h c).2.2.2.2, sem_eq_zero_of_no_sems (by decide) r.2⟩)
    (Cert.ReferenceIdeal.Value.run (F := Ideal) m g)

section
open Cert.ReferenceIdeal Cert.ReferenceIdeal.Hand

/-- The reference's run, its results by name. -/
theorem run_reference (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v72) = codeC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v75) = outSc (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v76) = outMn (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v77) = outSt (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c).1.trans (res_codes m c), (h c).2.1.trans (res_scale m c), (h c).2.2.1.trans (res_min m c),
      (h c).2.2.2.1.trans rfl, (h c).2.2.2.2⟩)
    (Cert.ReferenceIdeal.Value.run (F := Ideal) m g)

end

theorem algebraic : Cert.algebraic_KernelIdeal_ReferenceIdeal := by
  pair_intro
  · run_from Cert.KernelIdeal.Hand.run_blocks m g
  · refine (θ_run _ _ _).mono (fun r h c => ?_) (run_reference m' g')
    obtain ⟨h0, h1, h2, h3, hk⟩ := h c
    obtain ⟨e0, e1, e2, e3, e4, e5⟩ := hagree c
    rw [e0, e1, e2, e3, e4, e5] at h0
    rw [e0, e1, e3, e4, e5] at h1 h2
    rw [e0, e5] at h3
    exact ⟨h0.trans (Cert.KernelIdeal.Hand.final_codes m c).symm, h1.trans (Cert.KernelIdeal.Hand.final_scale m c).symm,
      h2.trans (Cert.KernelIdeal.Hand.final_min m c).symm, h3.trans (Cert.KernelIdeal.Hand.final_state m c).symm, hk⟩

/-! ### The packing call -/

theorem frame_repack : Cert.quiescent_Repack := fun m g _ => Cert.Repack.Gen.frame m g

theorem frame_repack_ideal : Cert.quiescent_RepackIdeal := fun m g _ => Cert.RepackIdeal.Gen.frame m g

theorem frame_repack_reference : Cert.quiescent_RepackReferenceIdeal := by
  intro m g _
  exact (θ_run Cert.RepackReferenceIdeal.defs _ _).mono (fun r h => ⟨fun c => (h c).2, sem_eq_zero_of_no_sems (by decide) r.2⟩)
    (Cert.RepackReferenceIdeal.Value.run (F := Ideal) m g)

section
open Cert.RepackReferenceIdeal

/-- The packing reference's run, its result by name. -/
theorem run_repack_reference (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v16) = Cert.RepackIdeal.Hand.packed (n := 700000) (m ((c.tc : Thread nD τ).loc main_arg0))
      ∧ r.2.mem ((c.tc : Thread nD τ).loc main_arg0) = m ((c.tc : Thread nD τ).loc main_arg0) :=
  (θ_run _ _ _).mono (fun r h c => ⟨(h c).1.trans (Cert.RepackReferenceIdeal.Hand.ref_packed _), (h c).2⟩)
    (Cert.RepackReferenceIdeal.Value.run (F := Ideal) m g)

end

theorem algebraic_repack : Cert.algebraic_RepackIdeal_RepackReferenceIdeal := by
  pair_intro
  · run_from Cert.RepackIdeal.Value.run_blocks m g
  · refine (θ_run _ _ _).mono (fun r h c => ?_) (run_repack_reference m' g')
    obtain ⟨h0, hk⟩ := h c
    have e0 := hagree c
    rw [e0] at h0
    exact ⟨h0.trans (Cert.RepackIdeal.Hand.final m c).symm, hk⟩

theorem claim : Cert.Claim :=
  ⟨Cert.Kernel.Gen.facts, Cert.KernelIdeal.Gen.facts, Cert.ReferenceIdeal.Gen.facts,
    Cert.Repack.Gen.facts, Cert.RepackIdeal.Gen.facts, Cert.RepackReferenceIdeal.Gen.facts,
    frame_kernel, frame_ideal, frame_reference, frame_repack, frame_repack_ideal, frame_repack_reference,
    trivial, algebraic, trivial, algebraic_repack⟩

end Cert.Proof

end
